-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_domain_KernelIdeal [hPre_in_domain_KernelIdeal : Cert.Pre_in_domain_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain_ReferenceIdeal [hPre_in_domain_ReferenceIdeal : Cert.Pre_in_domain_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain_KernelIdeal [hKernelIdeal : Cert.KernelIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain_ReferenceIdeal [hReferenceIdeal : Cert.ReferenceIdeal.Facts] [hPre_in_domain_ReferenceIdeal : Cert.Pre_in_domain_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain_KernelIdeal [hKernelIdeal : Cert.KernelIdeal.Facts] [hReferenceIdeal : Cert.ReferenceIdeal.Facts] [hPre_in_domain_KernelIdeal : Cert.Pre_in_domain_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![16, 512, 1024]⟩ 0 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_domain_KernelIdeal : Cert.Pre_in_domain_KernelIdeal.Facts) (hPre_in_domain_ReferenceIdeal : Cert.Pre_in_domain_ReferenceIdeal.Facts),
    quiescent_Kernel (hKernel := hKernel)
    ∧ quiescent_KernelIdeal (hKernelIdeal := hKernelIdeal)
    ∧ quiescent_KernelIdeal_pre_in_domain_KernelIdeal (hKernelIdeal := hKernelIdeal) (hPre_in_domain_KernelIdeal := hPre_in_domain_KernelIdeal)
    ∧ quiescent_ReferenceIdeal (hReferenceIdeal := hReferenceIdeal)
    ∧ quiescent_ReferenceIdeal_pre_in_domain_ReferenceIdeal (hReferenceIdeal := hReferenceIdeal) (hPre_in_domain_ReferenceIdeal := hPre_in_domain_ReferenceIdeal)
    ∧ preserves_Kernel_KernelIdeal
    ∧ algebraic_KernelIdeal_ReferenceIdeal_pre_in_domain_KernelIdeal (hKernelIdeal := hKernelIdeal) (hReferenceIdeal := hReferenceIdeal) (hPre_in_domain_KernelIdeal := hPre_in_domain_KernelIdeal)
-- ==== Pre_in_domain_KernelIdeal.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .bf16) (main_arg1 : FVec F S512x16 .bf16) (main_arg2 : IVec S2048x2 32) (main_arg3 : FVec F S4x512x1024 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 16#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .bf16 := Host.absf main_arg0
  let main_cst : FVec F S_ .bf16 := constant S_ .bf16 0x7F80#16
  let main_v7 : FVec F S2048x512 .bf16 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : IVec S_ 1 := andi main_v5 main_v9
  let main_v11 : FVec F S512x16 .bf16 := Host.absf main_arg1
  let main_cst_3 : FVec F S_ .bf16 := constant S_ .bf16 0x7F80#16
  let main_v12 : FVec F S512x16 .bf16 := broadcastInDim S512x16 ![] bcast_S_S512x16 main_cst_3
  let main_v13 : IVec S512x16 1 := cmpf .olt main_v11 main_v12
  let main_c_4 : IVec S_ 1 := constantI S_ 1 1#1
  let main_v14 : IVec S_ 1 := (fun x v => Host.reduce IntOp.andi x v reducesTo_S512x16_S_d0_1 h_S_) main_v13 main_c_4
  let main_v15 : IVec S_ 1 := andi main_v10 main_v14
  main_v15
-- ==== Pre_in_domain_ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S_ : Shape := ⟨0, ![]⟩

class Facts : Prop where
  bcast_S_S2048x2 : S_.BroadcastsInDim S2048x2 (![] : Fin 0 → Fin S2048x2.rank)
  reducesTo_S2048x2_S_d0_1 : S2048x2.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x16 : S_.BroadcastsInDim S512x16 (![] : Fin 0 → Fin S512x16.rank)
  reducesTo_S512x16_S_d0_1 : S512x16.ReducesTo [0, 1] S_

variable [Facts]

def fn {F : FTy → Type} [FloatOps F] (main_arg0 : FVec F S2048x512 .bf16) (main_arg1 : FVec F S512x16 .bf16) (main_arg2 : IVec S2048x2 32) (main_arg3 : FVec F S16x512x1024 .bf16) : IVec S_ 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 16#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_c_1 : IVec S_ 1 := constantI S_ 1 1#1
  let main_v5 : IVec S_ 1 := (fun x v => Host.reduce IntOp.andi x v reducesTo_S2048x2_S_d0_1 h_S_) main_v4 main_c_1
  let main_v6 : FVec F S2048x512 .bf16 := Host.absf main_arg0
  let main_cst : FVec F S_ .bf16 := constant S_ .bf16 0x7F80#16
  let main_v7 : FVec F S2048x512 .bf16 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : IVec S_ 1 := andi main_v5 main_v9
  let main_v11 : FVec F S512x16 .bf16 := Host.absf main_arg1
  let main_cst_3 : FVec F S_ .bf16 := constant S_ .bf16 0x7F80#16
  let main_v12 : FVec F S512x16 .bf16 := broadcastInDim S512x16 ![] bcast_S_S512x16 main_cst_3
  let main_v13 : IVec S512x16 1 := cmpf .olt main_v11 main_v12
  let main_c_4 : IVec S_ 1 := constantI S_ 1 1#1
  let main_v14 : IVec S_ 1 := (fun x v => Host.reduce IntOp.andi x v reducesTo_S512x16_S_d0_1 h_S_) main_v13 main_c_4
  let main_v15 : IVec S_ 1 := andi main_v10 main_v14
  main_v15
-- ==== Kernel.lean ====
abbrev S2048x512 : Shape := ⟨2, ![2048, 512]⟩
abbrev S512x16 : Shape := ⟨2, ![512, 16]⟩
abbrev S2048x2 : Shape := ⟨2, ![2048, 2]⟩
abbrev S4x512x1024 : Shape := ⟨3, ![4, 512, 1024]⟩
abbrev S512x1024 : Shape := ⟨2, ![512, 1024]⟩
abbrev S2048x2048 : Shape := ⟨2, ![2048, 2048]⟩
abbrev S2048x1024 : Shape := ⟨2, ![2048, 1024]⟩
abbrev S12x128x1024 : Shape := ⟨3, ![12, 128, 1024]⟩
abbrev S12 : Shape := ⟨1, ![12]⟩
abbrev S_ : Shape := ⟨0, ![]⟩
abbrev S1x512x1024 : Shape := ⟨3, ![1, 512, 1024]⟩
abbrev S512x512 : Shape := ⟨2, ![512, 512]⟩
abbrev S512 : Shape := ⟨1, ![512]⟩
abbrev S512x1 : Shape := ⟨2, ![512, 1]⟩
abbrev S128x2048 : Shape := ⟨2, ![128, 2048]⟩
abbrev S128x1024 : Shape := ⟨2, ![128, 1024]⟩
abbrev S1x128x1024 : Shape := ⟨3, ![1, 128, 1024]⟩
abbrev S1 : Shape := ⟨1, ![1]⟩
abbrev S512x2048 : Shape := ⟨2, ![512, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x2, .i32⟩
  | .hbm, ⟨3, _⟩ => ⟨S4x512x1024, .bf16⟩
  | .hbm, ⟨4, _⟩ => ⟨S512x1024, .f32⟩
  | .local _ .vmem, ⟨0, _⟩ => ⟨S2048x512, .bf16⟩
  | .local _ .vmem, ⟨1, _⟩ => ⟨S512x16, .bf16⟩
  | .local _ .vmem, ⟨2, _⟩ => ⟨S2048x2, .i32⟩
  | .local _ .vmem, ⟨3, _⟩ => ⟨S4x512x1024, .bf16⟩
  | .local _ .vmem, ⟨4, _⟩ => ⟨S512x1024, .f32⟩
  | .local _ .vmem, ⟨5, _⟩ => ⟨S2048x2048, .bf16⟩
  | .local _ .vmem, ⟨6, _⟩ => ⟨S2048x1024, .bf16⟩
  | .local _ .vmem, ⟨7, _⟩ => ⟨S12x128x1024, .bf16⟩
  | .local _ .vmem, ⟨8, _⟩ => ⟨S12x128x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v42 : Index := Scalar.indexCast v41
  let c0_31 : Index := 0#32
  ![v42.toNat, 0]
def k0_off2 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v55 : Index := Scalar.indexCast v41
  let c0_34 : Index := 0#32
  ![v55.toNat, 0]
def k0_off3 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v58 : Index := Scalar.indexCast v41
  let c1_35 : Index := 1#32
  ![v58.toNat, 1]
def k0_off4 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v91 : Index := Scalar.indexCast v41
  let c0_44 : Index := 0#32
  ![v91.toNat, 0]
def k0_off5 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v109 : Index := Scalar.indexCast v41
  let c512_49 : Index := 512#32
  ![v109.toNat, 512]
def k0_off6 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v127 : Index := Scalar.indexCast v41
  let c1024_54 : Index := 1024#32
  ![v127.toNat, 1024]
def k0_off7 (d0 : Dev nD) (c1_i32_29 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v145 : Index := Scalar.indexCast v41
  let c1536_59 : Index := 1536#32
  ![v145.toNat, 1536]
def k0_off8 (d0 : Dev nD) (c1_i32_29 : BitVec 32) (c0_i32_60 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v39 : BitVec 32 := Scalar.addi v2 c1_i32_29
  let c4_i32_30 : BitVec 32 := 4#32
  let v40 : BitVec 32 := Scalar.remsi v39 c4_i32_30
  let c512_i32 : BitVec 32 := 512#32
  let v41 : BitVec 32 := Scalar.muli v40 c512_i32
  let v149 : BitVec 32 := Scalar.addi v41 c0_i32_60
  let v150 : Index := Scalar.indexCast v149
  let c0_61 : Index := 0#32
  ![v150.toNat, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v39 : BitVec 32 := Scalar.addi v2 c1_i32_29
  let c4_i32_30 : BitVec 32 := 4#32
  let v40 : BitVec 32 := Scalar.remsi v39 c4_i32_30
  let c1_i32_71 : BitVec 32 := 1#32
  let v157 : BitVec 32 := Scalar.muli v40 c1_i32_71
  let v158 : BitVec 32 := Scalar.addi c0_i32_72 v157
  v158.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v39 : BitVec 32 := Scalar.addi v2 c1_i32_29
  let c4_i32_30 : BitVec 32 := 4#32
  let v40 : BitVec 32 := Scalar.remsi v39 c4_i32_30
  let c1_i32_86 : BitVec 32 := 1#32
  let v175 : BitVec 32 := Scalar.muli v40 c1_i32_86
  let v176 : BitVec 32 := Scalar.addi c0_i32_87 v175
  v176.toNat
def k0_dev6 (d0 : Dev nD) : Nat :=
  let c0_i32_102 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v39 : BitVec 32 := Scalar.addi v2 c1_i32_29
  let c4_i32_30 : BitVec 32 := 4#32
  let v40 : BitVec 32 := Scalar.remsi v39 c4_i32_30
  let c1_i32_101 : BitVec 32 := 1#32
  let v193 : BitVec 32 := Scalar.muli v40 c1_i32_101
  let v194 : BitVec 32 := Scalar.addi c0_i32_102 v193
  v194.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v39 : BitVec 32 := Scalar.addi v2 c1_i32_29
  let c4_i32_30 : BitVec 32 := 4#32
  let v40 : BitVec 32 := Scalar.remsi v39 c4_i32_30
  let c1_i32_116 : BitVec 32 := 1#32
  let v211 : BitVec 32 := Scalar.muli v40 c1_i32_116
  let v212 : BitVec 32 := Scalar.addi c0_i32_117 v211
  v212.toNat
def k0_dev8 (d0 : Dev nD) : Nat :=
  let c0_i32_165 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v221 : BitVec 32 := Scalar.addi v2 c2_i32_122
  let c4_i32_123 : BitVec 32 := 4#32
  let v222 : BitVec 32 := Scalar.remsi v221 c4_i32_123
  let c1_i32_164 : BitVec 32 := 1#32
  let v339 : BitVec 32 := Scalar.muli v222 c1_i32_164
  let v340 : BitVec 32 := Scalar.addi c0_i32_165 v339
  v340.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v221 : BitVec 32 := Scalar.addi v2 c2_i32_122
  let c4_i32_123 : BitVec 32 := 4#32
  let v222 : BitVec 32 := Scalar.remsi v221 c4_i32_123
  let c1_i32_178 : BitVec 32 := 1#32
  let v357 : BitVec 32 := Scalar.muli v222 c1_i32_178
  let v358 : BitVec 32 := Scalar.addi c0_i32_179 v357
  v358.toNat
def k0_dev10 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v221 : BitVec 32 := Scalar.addi v2 c2_i32_122
  let c4_i32_123 : BitVec 32 := 4#32
  let v222 : BitVec 32 := Scalar.remsi v221 c4_i32_123
  let c1_i32_192 : BitVec 32 := 1#32
  let v375 : BitVec 32 := Scalar.muli v222 c1_i32_192
  let v376 : BitVec 32 := Scalar.addi c0_i32_193 v375
  v376.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_122 : BitVec 32 := 2#32
  let v221 : BitVec 32 := Scalar.addi v2 c2_i32_122
  let c4_i32_123 : BitVec 32 := 4#32
  let v222 : BitVec 32 := Scalar.remsi v221 c4_i32_123
  let c1_i32_206 : BitVec 32 := 1#32
  let v393 : BitVec 32 := Scalar.muli v222 c1_i32_206
  let v394 : BitVec 32 := Scalar.addi c0_i32_207 v393
  v394.toNat
def k0_dev12 (d0 : Dev nD) : Nat :=
  let c0_i32_254 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_212 : BitVec 32 := 3#32
  let v403 : BitVec 32 := Scalar.addi v2 c3_i32_212
  let c4_i32_213 : BitVec 32 := 4#32
  let v404 : BitVec 32 := Scalar.remsi v403 c4_i32_213
  let c1_i32_253 : BitVec 32 := 1#32
  let v521 : BitVec 32 := Scalar.muli v404 c1_i32_253
  let v522 : BitVec 32 := Scalar.addi c0_i32_254 v521
  v522.toNat
def k0_dev13 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_212 : BitVec 32 := 3#32
  let v403 : BitVec 32 := Scalar.addi v2 c3_i32_212
  let c4_i32_213 : BitVec 32 := 4#32
  let v404 : BitVec 32 := Scalar.remsi v403 c4_i32_213
  let c1_i32_267 : BitVec 32 := 1#32
  let v539 : BitVec 32 := Scalar.muli v404 c1_i32_267
  let v540 : BitVec 32 := Scalar.addi c0_i32_268 v539
  v540.toNat
def k0_dev14 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_212 : BitVec 32 := 3#32
  let v403 : BitVec 32 := Scalar.addi v2 c3_i32_212
  let c4_i32_213 : BitVec 32 := 4#32
  let v404 : BitVec 32 := Scalar.remsi v403 c4_i32_213
  let c1_i32_281 : BitVec 32 := 1#32
  let v557 : BitVec 32 := Scalar.muli v404 c1_i32_281
  let v558 : BitVec 32 := Scalar.addi c0_i32_282 v557
  v558.toNat
def k0_dev15 (d0 : Dev nD) : Nat :=
  let c0_i32_296 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_212 : BitVec 32 := 3#32
  let v403 : BitVec 32 := Scalar.addi v2 c3_i32_212
  let c4_i32_213 : BitVec 32 := 4#32
  let v404 : BitVec 32 := Scalar.remsi v403 c4_i32_213
  let c1_i32_295 : BitVec 32 := 1#32
  let v575 : BitVec 32 := Scalar.muli v404 c1_i32_295
  let v576 : BitVec 32 := Scalar.addi c0_i32_296 v575
  v576.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v586 : Index := Scalar.indexCast v585
  let c0_302 : Index := 0#32
  ![v586.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v599 : Index := Scalar.indexCast v585
  let c0_306 : Index := 0#32
  ![v599.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v602 : Index := Scalar.indexCast v585
  let c1_307 : Index := 1#32
  ![v602.toNat, 1]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v635 : Index := Scalar.indexCast v585
  let c0_316 : Index := 0#32
  ![v635.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v653 : Index := Scalar.indexCast v585
  let c512_321 : Index := 512#32
  ![v653.toNat, 512]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v671 : Index := Scalar.indexCast v585
  let c1024_326 : Index := 1024#32
  ![v671.toNat, 1024]
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v689 : Index := Scalar.indexCast v585
  let c1536_331 : Index := 1536#32
  ![v689.toNat, 1536]
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_301 : BitVec 32 := 512#32
  let v585 : BitVec 32 := Scalar.muli v2 c512_i32_301
  let v693 : Index := Scalar.indexCast v585
  let c0_332 : Index := 0#32
  ![v693.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x16 : Shape := ⟨2, ![512, 16]⟩
abbrev S2048x2 : Shape := ⟨2, ![2048, 2]⟩
abbrev S16x512x1024 : Shape := ⟨3, ![16, 512, 1024]⟩
abbrev S2048x16 : Shape := ⟨2, ![2048, 16]⟩
abbrev S_ : Shape := ⟨0, ![]⟩
abbrev S2048 : Shape := ⟨1, ![2048]⟩
abbrev S2048x1 : Shape := ⟨2, ![2048, 1]⟩
abbrev S2048x2x1 : Shape := ⟨3, ![2048, 2, 1]⟩
abbrev S2048x16x1024 : Shape := ⟨3, ![2048, 16, 1024]⟩
abbrev S2048x2x1024 : Shape := ⟨3, ![2048, 2, 1024]⟩
abbrev S2048x1x1024 : Shape := ⟨3, ![2048, 1, 1024]⟩
abbrev S2048x1024 : Shape := ⟨2, ![2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x16, .bf16⟩
  | .hbm, ⟨2, _⟩ => ⟨S2048x2, .i32⟩
  | .hbm, ⟨3, _⟩ => ⟨S16x512x1024, .bf16⟩
  | .hbm, ⟨4, _⟩ => ⟨S2048x512, .f32⟩
  | .hbm, ⟨5, _⟩ => ⟨S512x16, .f32⟩
  | .hbm, ⟨6, _⟩ => ⟨S2048x16, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x16, .f32⟩
  | .hbm, ⟨11, _⟩ => ⟨S2048x16, .f32⟩
  | .hbm, ⟨12, _⟩ => ⟨S2048x16, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x16, .f32⟩
  | .hbm, ⟨17, _⟩ => ⟨S2048x16, .f32⟩
  | .hbm, ⟨18, _⟩ => ⟨S_, .i32⟩
  | .hbm, ⟨19, _⟩ => ⟨S2048x2, .i32⟩
  | .hbm, ⟨20, _⟩ => ⟨S2048x2, .i1⟩
  | .hbm, ⟨21, _⟩ => ⟨S_, .i32⟩
  | .hbm, ⟨22, _⟩ => ⟨S2048x2, .i32⟩
  | .hbm, ⟨23, _⟩ => ⟨S2048x2, .i32⟩
  | .hbm, ⟨24, _⟩ => ⟨S2048x2, .i32⟩
  | .hbm, ⟨25, _⟩ => ⟨S2048x2x1, .i32⟩
  | .hbm, ⟨26, _⟩ => ⟨S2048x2, .f32⟩
  | .hbm, ⟨27, _⟩ => ⟨S2048x1, .f32⟩
  | .hbm, ⟨28, _⟩ => ⟨S2048x1, .f32⟩
  | .hbm, ⟨29, _⟩ => ⟨S2048x1, .f32⟩
  | .hbm, ⟨30, _⟩ => ⟨S16x512x1024, .f32⟩
  | .hbm, ⟨31, _⟩ => ⟨S2048x16x1024, .f32⟩
  | .hbm, ⟨32, _⟩ => ⟨S2048x2x1, .i32⟩
  | .hbm, ⟨33, _⟩ => ⟨S_, .i32⟩
  | .hbm, ⟨34, _⟩ => ⟨S2048x2x1, .i32⟩
  | .hbm, ⟨35, _⟩ => ⟨S2048x2x1, .i1⟩
  | .hbm, ⟨36, _⟩ => ⟨S_, .i32⟩
  | .hbm, ⟨37, _⟩ => ⟨S2048x2x1, .i32⟩
  | .hbm, ⟨38, _⟩ => ⟨S2048x2x1, .i32⟩
  | .hbm, ⟨39, _⟩ => ⟨S2048x2x1, .i32⟩
  | .hbm, ⟨40, _⟩ => ⟨S2048x2x1024, .f32⟩
  | .hbm, ⟨41, _⟩ => ⟨S2048x1, .f32⟩
  | .hbm, ⟨42, _⟩ => ⟨S2048x1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S2048x1x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Proof.Contents.lean ====
/-
What the exchange moves: the contents every buffer of the kernel holds, as functions of the four argument blocks of
each device, over any carrier of the floats.

A device keeps four experts. For a chunk of 512 tokens it scales the token rows by the gate of each of its experts,
side by side (four column blocks of 512), multiplies by its four expert matrices stacked, and so has its experts'
share of the chunk's result. The chunks of the other three devices travel as bf16 blocks of 128 rows; a device's own
chunk stays at f32 and the twelve received blocks are added to it.
-/
module

public import proofs.«01_k».proof.Proof.Gen.KernelIdeal
public import proofs.«01_k».proof.Proof.Gen.KernelIdeal.Skeleton
public import Idealize.ShloMosaic.Lib.WritesUnit
public import Idealize.ShloMosaic.Lib.VecWindow
public import Idealize.ShloMosaic.Lib.ValueIdxCore
public import Idealize.ShloMosaic.Lib.ValueLayout

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]

/-! ## The devices -/

set_option backward.proofsInPublic true in
/-- The device `k` places on. -/
def rot (k : ℕ) (c : Dev nD) : Dev nD := ⟨(c.val + k) % 4, Nat.mod_lt _ (by decide)⟩

theorem rot_val (k : ℕ) (c : Dev nD) : (rot k c).val = (c.val + k) % 4 := rfl

/-- The device's number, as the kernel computes it. -/
def devWord (c : Dev nD) : BitVec 32 := Scalar.remsi (Scalar.divsi (Dev.word c) 1#32) 4#32

/-! ## A chunk's rows of the arguments -/

theorem chunk_inb (c : Dev nD) : ∀ a, (![512 * c.val, 0] : Fin 2 → ℕ) a + S512x512.size a ≤ S2048x512.size a := by
  revert c; decide

theorem col0_inb (c : Dev nD) : ∀ a, (![512 * c.val, 0] : Fin 2 → ℕ) a + S512x1.size a ≤ S2048x2.size a := by
  revert c; decide

theorem col1_inb (c : Dev nD) : ∀ a, (![512 * c.val, 1] : Fin 2 → ℕ) a + S512x1.size a ≤ S2048x2.size a := by
  revert c; decide

/-- Chunk `k`'s token rows. -/
def xPart (x : Vec F S2048x512 .bf16) (k : Dev nD) : Vec F S512x512 .bf16 :=
  VecWindow.window x ![512 * k.val, 0] S512x512.size (chunk_inb k)

/-- Chunk `k`'s first choices. -/
def firstPart (ix : Vec F S2048x2 .i32) (k : Dev nD) : Vec F S512x1 .i32 :=
  VecWindow.window ix ![512 * k.val, 0] S512x1.size (col0_inb k)

/-- Chunk `k`'s second choices. -/
def secondPart (ix : Vec F S2048x2 .i32) (k : Dev nD) : Vec F S512x1 .i32 :=
  VecWindow.window ix ![512 * k.val, 1] S512x1.size (col1_inb k)

/-! ## The gated rows -/

/-- The column number under each element of a row of scores. -/
def cols : IVec S512x16 32 := iota .tc S512x16 32 [1] iota_S512x16_d1_w32

variable (w : BitVec 32) (rw : Vec F S512x16 .bf16) (X : Vec F S512x512 .bf16) (i0 i1 : Vec F S512x1 .i32)

/-- The chunk's routing probabilities. -/
def probs : FVec F S512x16 .f32 := k0_pay8 (k0_pay1 rw) X

/-- The weight of the first choice. -/
def gateA : FVec F S512x1 .f32 := k0_pay14 (probs rw X) (k0_pay9 (F := F) i0) (k0_pay10 (F := F) i1) cols

/-- The weight of the second choice. -/
def gateB : FVec F S512x1 .f32 := k0_pay15 (probs rw X) (k0_pay9 (F := F) i0) (k0_pay10 (F := F) i1) cols

/-- The rows scaled by the gate of the device's expert 0. -/
def gated0 : Vec F S512x512 .bf16 := k0_pay16 w (k0_pay7 X) (probs rw X) (k0_pay9 (F := F) i0) (k0_pay10 (F := F) i1) cols

/-- The rows scaled by the gate of the device's expert 1. -/
def gated1 : Vec F S512x512 .bf16 :=
  k0_pay18 (k0_pay7 X) (k0_pay17 w (probs rw X) (k0_pay9 (F := F) i0) (k0_pay10 (F := F) i1) cols)

/-- The rows scaled by the gate of the device's expert 2. -/
def gated2 : Vec F S512x512 .bf16 :=
  k0_pay19 w (k0_pay7 X) (k0_pay9 (F := F) i0) (k0_pay10 (F := F) i1) (gateA rw X i0 i1) (gateB rw X i0 i1)

/-- The rows scaled by the gate of the device's expert 3. -/
def gated3 : Vec F S512x512 .bf16 :=
  k0_pay20 w (k0_pay7 X) (k0_pay9 (F := F) i0) (k0_pay10 (F := F) i1) (gateA rw X i0 i1) (gateB rw X i0 i1)

/-- The four scalings. -/
def gated (le : Fin 4) : Vec F S512x512 .bf16 :=
  match le with
  | ⟨0, _⟩ => gated0 w rw X i0 i1
  | ⟨1, _⟩ => gated1 w rw X i0 i1
  | ⟨2, _⟩ => gated2 w rw X i0 i1
  | ⟨3, _⟩ => gated3 w rw X i0 i1

/-! ### The later chunks compute the same scalings -/

theorem second0 : k0_pay35 w (k0_pay25 X) (k0_pay26 (k0_pay1 rw) X) (k0_pay27 (F := F) i0) (k0_pay28 (F := F) i1) cols
    (k0_pay29 (k0_pay1 rw) X i0) = gated0 w rw X i0 i1 := rfl

theorem second1 : k0_pay36 w (k0_pay25 X) (k0_pay26 (k0_pay1 rw) X) (k0_pay27 (F := F) i0) (k0_pay28 (F := F) i1) cols
    (k0_pay29 (k0_pay1 rw) X i0) = gated1 w rw X i0 i1 := rfl

theorem second2 : k0_pay37 w (k0_pay25 X) (k0_pay27 (F := F) i0) (k0_pay28 (F := F) i1)
    (k0_pay33 (k0_pay26 (k0_pay1 rw) X) (k0_pay28 (F := F) i1) cols (k0_pay29 (k0_pay1 rw) X i0))
    (k0_pay34 (k0_pay26 (k0_pay1 rw) X) (k0_pay28 (F := F) i1) cols (k0_pay29 (k0_pay1 rw) X i0)) = gated2 w rw X i0 i1 := rfl

theorem second3 : k0_pay38 w (k0_pay25 X) (k0_pay27 (F := F) i0) (k0_pay28 (F := F) i1)
    (k0_pay33 (k0_pay26 (k0_pay1 rw) X) (k0_pay28 (F := F) i1) cols (k0_pay29 (k0_pay1 rw) X i0))
    (k0_pay34 (k0_pay26 (k0_pay1 rw) X) (k0_pay28 (F := F) i1) cols (k0_pay29 (k0_pay1 rw) X i0)) = gated3 w rw X i0 i1 := rfl

theorem third0 : k0_pay54 w (k0_pay44 X) (k0_pay46 (F := F) i0) (k0_pay47 (F := F) i1) (k0_pay48 (k0_pay1 rw) X i0)
    (k0_pay49 (k0_pay1 rw) X i1) = gated0 w rw X i0 i1 := rfl

theorem third1 : k0_pay55 w (k0_pay44 X) (k0_pay46 (F := F) i0) (k0_pay47 (F := F) i1) (k0_pay48 (k0_pay1 rw) X i0)
    (k0_pay49 (k0_pay1 rw) X i1) = gated1 w rw X i0 i1 := rfl

theorem third3 : k0_pay59 w (k0_pay44 X) (k0_pay46 (F := F) i0) (k0_pay47 (F := F) i1)
    (k0_pay52 (k0_pay48 (k0_pay1 rw) X i0) (k0_pay49 (k0_pay1 rw) X i1))
    (k0_pay53 (k0_pay48 (k0_pay1 rw) X i0) (k0_pay49 (k0_pay1 rw) X i1)) = gated3 w rw X i0 i1 := rfl

theorem third2 : k0_pay58 (k0_pay44 X) (k0_pay47 (F := F) i1)
    (k0_pay52 (k0_pay48 (k0_pay1 rw) X i0) (k0_pay49 (k0_pay1 rw) X i1))
    (k0_pay53 (k0_pay48 (k0_pay1 rw) X i0) (k0_pay49 (k0_pay1 rw) X i1))
    (Scalar.addi (Scalar.muli w 4#32) 2#32) (k0_pay56 w (k0_pay46 (F := F) i0)) (k0_pay57 (F := F)) = gated2 w rw X i0 i1 := rfl

theorem own0 : k0_pay75 (k0_pay65 X) (k0_pay68 (F := F) i1) (k0_pay73 (k0_pay1 rw) X i0 i1)
    (Scalar.addi (Scalar.muli w 4#32) 0#32) (k0_pay74 w (k0_pay1 rw) X i0 i1) = gated0 w rw X i0 i1 := rfl

theorem own1 : k0_pay76 w (k0_pay65 X) (k0_pay67 (F := F) i0) (k0_pay68 (F := F) i1) (k0_pay72 (k0_pay1 rw) X i0 i1)
    (k0_pay73 (k0_pay1 rw) X i0 i1) = gated1 w rw X i0 i1 := rfl

theorem own2 : k0_pay78 (k0_pay77 w (k0_pay65 X) (k0_pay67 (F := F) i0) (k0_pay68 (F := F) i1) (k0_pay72 (k0_pay1 rw) X i0 i1)
    (k0_pay73 (k0_pay1 rw) X i0 i1)) = gated2 w rw X i0 i1 := rfl

theorem own3 : k0_pay79 w (k0_pay65 X) (k0_pay67 (F := F) i0) (k0_pay68 (F := F) i1) (k0_pay72 (k0_pay1 rw) X i0 i1)
    (k0_pay73 (k0_pay1 rw) X i0 i1) = gated3 w rw X i0 i1 := rfl

/-! ## Side by side, stacked -/

/-- Rows `128 h` to `128 h + 127` of the four scalings side by side. -/
def gatedRows (G : Fin 4 → Vec F S512x512 .bf16) (h : Fin 4) : Vec F S128x2048 .bf16 := fun j =>
  G ⟨(j 1).val / 512, by have := idx2_lt1 j; omega⟩
    (ix2 ⟨128 * h.val + (j 0).val, by have := idx2_lt0 j; omega⟩ ⟨(j 1).val % 512, by omega⟩)

/-- All 512 rows of the four scalings side by side. -/
def gatedAll (G : Fin 4 → Vec F S512x512 .bf16) : Vec F S512x2048 .bf16 := fun j =>
  G ⟨(j 1).val / 512, by have := idx2_lt1 j; omega⟩ (ix2 (j 0) ⟨(j 1).val % 512, by omega⟩)

/-- The device's four expert matrices stacked. -/
def stacked (ew : Vec F S4x512x1024 .bf16) : Vec F S2048x1024 .bf16 := fun j =>
  ew (ix3 ⟨(j 0).val / 512, by have := idx2_lt0 j; omega⟩ ⟨(j 0).val % 512, by omega⟩ (j 1))

/-! ## Reading the buffers back -/

section

variable {sig' : RefSig} {κ : Kind} {sp : Space}

/-- One column block of 512 by 512 missed by an element in another column block. -/
theorem colBlock_miss (v : View sig' κ sp S2048x2048 .bf16) (f : v.ty.Contents (Elt F)) {off : Fin 2 → ℕ} {R C : ℕ}
    (inb : ∀ a, off a + S512x512.size a ≤ S2048x2048.size a) (p : Vec F S512x512 .bf16)
    (L : List (View.Piece (Elt F) S2048x2048 .bf16)) (y : S2048x2048.Idx) (heq : off = ![R, C])
    (hy : (y 1).val < C ∨ C + 512 ≤ (y 1).val) :
    v.read (Elt F) (v.writes (Elt F) f ((⟨Rect.unit (s := S2048x2048) off S512x512.size inb, p⟩ : View.Piece (Elt F) S2048x2048 .bf16) :: L)) y
      = v.read (Elt F) (v.writes (Elt F) f L) y :=
  View.read_writes_cons_unit_of_not_mem v f inb p L y heq (1 : Fin 2) hy

/-- One column block of 512 by 512 read back at an element in it. -/
theorem colBlock_hit (v : View sig' κ sp S2048x2048 .bf16) (f : v.ty.Contents (Elt F)) {off : Fin 2 → ℕ} {R C : ℕ}
    (inb : ∀ a, off a + S512x512.size a ≤ S2048x2048.size a) (p : Vec F S512x512 .bf16)
    (L : List (View.Piece (Elt F) S2048x2048 .bf16)) (y : S2048x2048.Idx) (heq : off = ![R, C]) (x : S512x512.Idx)
    (h0 : (y 0).val = R + (x 0).val) (h1 : (y 1).val = C + (x 1).val) :
    v.read (Elt F) (v.writes (Elt F) f ((⟨Rect.unit (s := S2048x2048) off S512x512.size inb, p⟩ : View.Piece (Elt F) S2048x2048 .bf16) :: L)) y
      = p x :=
  View.read_writes_cons_unit_of_mem v f inb p L y x heq (Fin.forall_fin_two.mpr ⟨h0, h1⟩)

/-- The four column blocks of a chunk, written last, read back at an element of the chunk's rows. -/
theorem chunk_read (v : View sig' κ sp S2048x2048 .bf16) (f : v.ty.Contents (Elt F)) (G : Fin 4 → Vec F S512x512 .bf16)
    {o0 o1 o2 o3 : Fin 2 → ℕ} {R : ℕ} (b0 : ∀ a, o0 a + S512x512.size a ≤ S2048x2048.size a)
    (b1 : ∀ a, o1 a + S512x512.size a ≤ S2048x2048.size a) (b2 : ∀ a, o2 a + S512x512.size a ≤ S2048x2048.size a)
    (b3 : ∀ a, o3 a + S512x512.size a ≤ S2048x2048.size a) (L : List (View.Piece (Elt F) S2048x2048 .bf16))
    (e0 : o0 = ![R, 0]) (e1 : o1 = ![R, 512]) (e2 : o2 = ![R, 1024]) (e3 : o3 = ![R, 1536])
    (y : S2048x2048.Idx) (i : Fin 512) (hy : (y 0).val = R + i.val) :
    v.read (Elt F) (v.writes (Elt F) f
        ((⟨Rect.unit (s := S2048x2048) o3 S512x512.size b3, G 3⟩ : View.Piece (Elt F) S2048x2048 .bf16)
          :: (⟨Rect.unit (s := S2048x2048) o2 S512x512.size b2, G 2⟩ : View.Piece (Elt F) S2048x2048 .bf16)
          :: (⟨Rect.unit (s := S2048x2048) o1 S512x512.size b1, G 1⟩ : View.Piece (Elt F) S2048x2048 .bf16)
          :: (⟨Rect.unit (s := S2048x2048) o0 S512x512.size b0, G 0⟩ : View.Piece (Elt F) S2048x2048 .bf16) :: L)) y
      = G ⟨(y 1).val / 512, by have := idx2_lt1 y; omega⟩ (ix2 i ⟨(y 1).val % 512, by omega⟩) := by
  have hlt := idx2_lt1 y
  have key : ∀ n : Fin 4, (y 1).val / 512 = n.val → ⟨(y 1).val / 512, by omega⟩ = n := fun n h => Fin.ext h
  rcases (by omega : (y 1).val / 512 = 3 ∨ (y 1).val / 512 = 2 ∨ (y 1).val / 512 = 1 ∨ (y 1).val / 512 = 0) with h | h | h | h
  · rw [key 3 h]
    exact colBlock_hit v f b3 _ _ y e3 (ix2 i ⟨(y 1).val % 512, by omega⟩) hy
      (by show (y 1).val = 1536 + (y 1).val % 512; omega)
  · rw [key 2 h, colBlock_miss v f b3 _ _ y e3 (by omega)]
    exact colBlock_hit v f b2 _ _ y e2 (ix2 i ⟨(y 1).val % 512, by omega⟩) hy
      (by show (y 1).val = 1024 + (y 1).val % 512; omega)
  · rw [key 1 h, colBlock_miss v f b3 _ _ y e3 (by omega), colBlock_miss v f b2 _ _ y e2 (by omega)]
    exact colBlock_hit v f b1 _ _ y e1 (ix2 i ⟨(y 1).val % 512, by omega⟩) hy
      (by show (y 1).val = 512 + (y 1).val % 512; omega)
  · rw [key 0 h, colBlock_miss v f b3 _ _ y e3 (by omega), colBlock_miss v f b2 _ _ y e2 (by omega),
      colBlock_miss v f b1 _ _ y e1 (by omega)]
    exact colBlock_hit v f b0 _ _ y e0 (ix2 i ⟨(y 1).val % 512, by omega⟩) hy
      (by show (y 1).val = 0 + (y 1).val % 512; omega)

/-- A load of 128 rows of a chunk reads those rows of its scalings. -/
theorem rows_load (v : View sig' κ sp S2048x2048 .bf16) (f : v.ty.Contents (Elt F)) (G : Fin 4 → Vec F S512x512 .bf16)
    {o0 o1 o2 o3 o : Fin 2 → ℕ} {R : ℕ} (b0 : ∀ a, o0 a + S512x512.size a ≤ S2048x2048.size a)
    (b1 : ∀ a, o1 a + S512x512.size a ≤ S2048x2048.size a) (b2 : ∀ a, o2 a + S512x512.size a ≤ S2048x2048.size a)
    (b3 : ∀ a, o3 a + S512x512.size a ≤ S2048x2048.size a) (L : List (View.Piece (Elt F) S2048x2048 .bf16))
    (b : ∀ a, o a + S128x2048.size a ≤ S2048x2048.size a) (h : Fin 4)
    (e0 : o0 = ![R, 0]) (e1 : o1 = ![R, 512]) (e2 : o2 = ![R, 1024]) (e3 : o3 = ![R, 1536]) (e : o = ![R + 128 * h.val, 0]) :
    v.readAt (Elt F) (Rect.unit (s := S2048x2048) o S128x2048.size b).toLoadRect (v.writes (Elt F) f
        ((⟨Rect.unit (s := S2048x2048) o3 S512x512.size b3, G 3⟩ : View.Piece (Elt F) S2048x2048 .bf16)
          :: (⟨Rect.unit (s := S2048x2048) o2 S512x512.size b2, G 2⟩ : View.Piece (Elt F) S2048x2048 .bf16)
          :: (⟨Rect.unit (s := S2048x2048) o1 S512x512.size b1, G 1⟩ : View.Piece (Elt F) S2048x2048 .bf16)
          :: (⟨Rect.unit (s := S2048x2048) o0 S512x512.size b0, G 0⟩ : View.Piece (Elt F) S2048x2048 .bf16) :: L))
      = gatedRows G h := by
  subst e
  funext j
  have hj0 := idx2_lt0 j
  refine (chunk_read v f G b0 b1 b2 b3 L e0 e1 e2 e3 _ ⟨128 * h.val + (j 0).val, by omega⟩ ?_).trans ?_
  · show R + 128 * h.val + 1 * (j 0).val = R + (128 * h.val + (j 0).val)
    omega
  · have h1 : ∀ r : Fin 2048, r.val = (j 1).val → (⟨r.val / 512, by omega⟩ : Fin 4) = ⟨(j 1).val / 512, by have := idx2_lt1 j; omega⟩
        ∧ (⟨r.val % 512, by omega⟩ : Fin 512) = ⟨(j 1).val % 512, by omega⟩ := fun r hr => ⟨Fin.ext (by show r.val / 512 = _; rw [hr]), Fin.ext (by show r.val % 512 = _; rw [hr])⟩
    obtain ⟨ha, hb⟩ := h1 (((Rect.unit (s := S2048x2048) ![R + 128 * h.val, 0] S128x2048.size b).emb j) 1)
      (by show 0 + 1 * (j 1).val = (j 1).val; omega)
    unfold gatedRows
    exact congrArg₂ (fun p q => G p (ix2 ⟨128 * h.val + (j 0).val, by omega⟩ q)) ha hb

/-- A load of a chunk's 512 rows reads its scalings. -/
theorem chunk_load (v : View sig' κ sp S2048x2048 .bf16) (f : v.ty.Contents (Elt F)) (G : Fin 4 → Vec F S512x512 .bf16)
    {o0 o1 o2 o3 o : Fin 2 → ℕ} {R : ℕ} (b0 : ∀ a, o0 a + S512x512.size a ≤ S2048x2048.size a)
    (b1 : ∀ a, o1 a + S512x512.size a ≤ S2048x2048.size a) (b2 : ∀ a, o2 a + S512x512.size a ≤ S2048x2048.size a)
    (b3 : ∀ a, o3 a + S512x512.size a ≤ S2048x2048.size a) (L : List (View.Piece (Elt F) S2048x2048 .bf16))
    (b : ∀ a, o a + S512x2048.size a ≤ S2048x2048.size a)
    (e0 : o0 = ![R, 0]) (e1 : o1 = ![R, 512]) (e2 : o2 = ![R, 1024]) (e3 : o3 = ![R, 1536]) (e : o = ![R, 0]) :
    v.readAt (Elt F) (Rect.unit (s := S2048x2048) o S512x2048.size b).toLoadRect (v.writes (Elt F) f
        ((⟨Rect.unit (s := S2048x2048) o3 S512x512.size b3, G 3⟩ : View.Piece (Elt F) S2048x2048 .bf16)
          :: (⟨Rect.unit (s := S2048x2048) o2 S512x512.size b2, G 2⟩ : View.Piece (Elt F) S2048x2048 .bf16)
          :: (⟨Rect.unit (s := S2048x2048) o1 S512x512.size b1, G 1⟩ : View.Piece (Elt F) S2048x2048 .bf16)
          :: (⟨Rect.unit (s := S2048x2048) o0 S512x512.size b0, G 0⟩ : View.Piece (Elt F) S2048x2048 .bf16) :: L))
      = gatedAll G := by
  subst e
  funext j
  refine (chunk_read v f G b0 b1 b2 b3 L e0 e1 e2 e3 _ (j 0) ?_).trans ?_
  · show R + 1 * (j 0).val = R + (j 0).val
    omega
  · have h1 : ∀ r : Fin 2048, r.val = (j 1).val → (⟨r.val / 512, by omega⟩ : Fin 4) = ⟨(j 1).val / 512, by have := idx2_lt1 j; omega⟩
        ∧ (⟨r.val % 512, by omega⟩ : Fin 512) = ⟨(j 1).val % 512, by omega⟩ := fun r hr => ⟨Fin.ext (by show r.val / 512 = _; rw [hr]), Fin.ext (by show r.val % 512 = _; rw [hr])⟩
    obtain ⟨ha, hb⟩ := h1 (((Rect.unit (s := S2048x2048) ![R, 0] S512x2048.size b).emb j) 1)
      (by show 0 + 1 * (j 1).val = (j 1).val; omega)
    unfold gatedAll
    exact congrArg₂ (fun p q => G p (ix2 (j 0) q)) ha hb

/-- The four expert matrices, written one under another, read back whole. -/
theorem stack_load (v : View sig' κ sp S2048x1024 .bf16) (f : v.ty.Contents (Elt F)) (B : Fin 4 → Vec F S512x1024 .bf16)
    {o0 o1 o2 o3 o : Fin 2 → ℕ} (b0 : ∀ a, o0 a + S512x1024.size a ≤ S2048x1024.size a)
    (b1 : ∀ a, o1 a + S512x1024.size a ≤ S2048x1024.size a) (b2 : ∀ a, o2 a + S512x1024.size a ≤ S2048x1024.size a)
    (b3 : ∀ a, o3 a + S512x1024.size a ≤ S2048x1024.size a) (L : List (View.Piece (Elt F) S2048x1024 .bf16))
    (b : ∀ a, o a + S2048x1024.size a ≤ S2048x1024.size a)
    (e0 : o0 = ![0, 0]) (e1 : o1 = ![512, 0]) (e2 : o2 = ![1024, 0]) (e3 : o3 = ![1536, 0]) :
    v.readAt (Elt F) (Rect.unit (s := S2048x1024) o S2048x1024.size b).toLoadRect (v.writes (Elt F) f
        ((⟨Rect.unit (s := S2048x1024) o3 S512x1024.size b3, B 3⟩ : View.Piece (Elt F) S2048x1024 .bf16)
          :: (⟨Rect.unit (s := S2048x1024) o2 S512x1024.size b2, B 2⟩ : View.Piece (Elt F) S2048x1024 .bf16)
          :: (⟨Rect.unit (s := S2048x1024) o1 S512x1024.size b1, B 1⟩ : View.Piece (Elt F) S2048x1024 .bf16)
          :: (⟨Rect.unit (s := S2048x1024) o0 S512x1024.size b0, B 0⟩ : View.Piece (Elt F) S2048x1024 .bf16) :: L))
      = fun j => B ⟨(j 0).val / 512, by have := idx2_lt0 j; omega⟩ (ix2 ⟨(j 0).val % 512, by omega⟩ (j 1)) := by
  rw [View.readAt_full]
  funext j
  have hlt := idx2_lt0 j
  have key : ∀ n : Fin 4, (j 0).val / 512 = n.val → ⟨(j 0).val / 512, by omega⟩ = n := fun n h => Fin.ext h
  rcases (by omega : (j 0).val / 512 = 3 ∨ (j 0).val / 512 = 2 ∨ (j 0).val / 512 = 1 ∨ (j 0).val / 512 = 0) with h | h | h | h
  · rw [key 3 h]
    exact View.read_writes_cons_rows_of_mem v f b3 _ _ j (ix2 ⟨(j 0).val % 512, by omega⟩ (j 1)) e3
      (by show (j 0).val = 1536 + (j 0).val % 512; omega) rfl
  · rw [key 2 h, View.read_writes_cons_rows_of_not_mem (W := 512) v f b3 _ _ j e3 rfl (by omega)]
    exact View.read_writes_cons_rows_of_mem v f b2 _ _ j (ix2 ⟨(j 0).val % 512, by omega⟩ (j 1)) e2
      (by show (j 0).val = 1024 + (j 0).val % 512; omega) rfl
  · rw [key 1 h, View.read_writes_cons_rows_of_not_mem (W := 512) v f b3 _ _ j e3 rfl (by omega),
      View.read_writes_cons_rows_of_not_mem (W := 512) v f b2 _ _ j e2 rfl (by omega)]
    exact View.read_writes_cons_rows_of_mem v f b1 _ _ j (ix2 ⟨(j 0).val % 512, by omega⟩ (j 1)) e1
      (by show (j 0).val = 512 + (j 0).val % 512; omega) rfl
  · rw [key 0 h, View.read_writes_cons_rows_of_not_mem (W := 512) v f b3 _ _ j e3 rfl (by omega),
      View.read_writes_cons_rows_of_not_mem (W := 512) v f b2 _ _ j e2 rfl (by omega),
      View.read_writes_cons_rows_of_not_mem (W := 512) v f b1 _ _ j e1 rfl (by omega)]
    exact View.read_writes_cons_rows_of_mem v f b0 _ _ j (ix2 ⟨(j 0).val % 512, by omega⟩ (j 1)) e0
      (by show (j 0).val = 0 + (j 0).val % 512; omega) rfl

/-- One expert's matrix, loaded off the argument and cast to two axes. -/
theorem expert_load (v : View sig' κ sp S4x512x1024 .bf16) (f : v.ty.Contents (Elt F)) {o : Fin 3 → ℕ}
    (b : ∀ a, o a + S1x512x1024.size a ≤ S4x512x1024.size a) (le : Fin 4) (e : o = ![le.val, 0, 0])
    (hc : S1x512x1024.ShapeCasts S512x1024) :
    shapeCast S512x1024 (v.readAt (Elt F) (Rect.unit (s := S4x512x1024) o S1x512x1024.size b).toLoadRect f) hc
      = fun j => v.read (Elt F) f (ix3 le (j 0) (j 1)) := by
  subst e
  funext j
  rw [eq_ix2 j]
  refine (shapeCast_1ab_ab_apply _ hc (j 0) (j 1)).trans ?_
  refine congrArg (v.read (Elt F) f) (funext fun a => Fin.ext ?_)
  match a with
  | ⟨0, _⟩ => show le.val + 1 * 0 = le.val; omega
  | ⟨1, _⟩ => show 0 + 1 * (j 0).val = (j 0).val; omega
  | ⟨2, _⟩ => show 0 + 1 * (j 1).val = (j 1).val; omega

/-! ### Rows of the result -/

theorem rows_inb (h : Fin 4) : ∀ a, (![128 * h.val, 0] : Fin 2 → ℕ) a + S128x1024.size a ≤ S512x1024.size a := by
  revert h; decide

/-- Rows `128 h` to `128 h + 127` of a chunk's result. -/
def rowsOf (p : Vec F S512x1024 .f32) (h : Fin 4) : Vec F S128x1024 .f32 :=
  VecWindow.window p ![128 * h.val, 0] S128x1024.size (rows_inb h)

theorem outRows_hit (v : View sig' κ sp S512x1024 .f32) (f : v.ty.Contents (Elt F)) {o o' : Fin 2 → ℕ}
    (b : ∀ a, o a + S128x1024.size a ≤ S512x1024.size a) (b' : ∀ a, o' a + S128x1024.size a ≤ S512x1024.size a)
    (p : Vec F S128x1024 .f32) (L : List (View.Piece (Elt F) S512x1024 .f32)) (e : o = o') :
    v.readAt (Elt F) (Rect.unit (s := S512x1024) o S128x1024.size b).toLoadRect
        (v.writes (Elt F) f ((⟨Rect.unit (s := S512x1024) o' S128x1024.size b', p⟩ : View.Piece (Elt F) S512x1024 .f32) :: L)) = p := by
  subst e
  funext j
  exact View.read_writes_cons_unit_of_mem v f b' p L _ j rfl fun a => by
    show o a + 1 * (j a).val = o a + (j a).val; omega

theorem outRows_miss (v : View sig' κ sp S512x1024 .f32) (f : v.ty.Contents (Elt F)) {o o' : Fin 2 → ℕ} {h h' : ℕ}
    (b : ∀ a, o a + S128x1024.size a ≤ S512x1024.size a) (b' : ∀ a, o' a + S128x1024.size a ≤ S512x1024.size a)
    (p : Vec F S128x1024 .f32) (L : List (View.Piece (Elt F) S512x1024 .f32)) (e : o = ![128 * h, 0]) (e' : o' = ![128 * h', 0])
    (hne : h ≠ h') :
    v.readAt (Elt F) (Rect.unit (s := S512x1024) o S128x1024.size b).toLoadRect
        (v.writes (Elt F) f ((⟨Rect.unit (s := S512x1024) o' S128x1024.size b', p⟩ : View.Piece (Elt F) S512x1024 .f32) :: L))
      = v.readAt (Elt F) (Rect.unit (s := S512x1024) o S128x1024.size b).toLoadRect (v.writes (Elt F) f L) := by
  subst e
  funext j
  have hj := idx2_lt0 j
  refine View.read_writes_cons_unit_of_not_mem v f b' p L _ e' (0 : Fin 2) ?_
  show 128 * h + 1 * (j 0).val < 128 * h' ∨ 128 * h' + 128 ≤ 128 * h + 1 * (j 0).val
  omega

theorem outRows_base (v : View sig' κ sp S512x1024 .f32) (f : v.ty.Contents (Elt F)) {o o' : Fin 2 → ℕ} (h : Fin 4)
    (b : ∀ a, o a + S128x1024.size a ≤ S512x1024.size a) (b' : ∀ a, o' a + S512x1024.size a ≤ S512x1024.size a)
    (p : Vec F S512x1024 .f32) (L : List (View.Piece (Elt F) S512x1024 .f32)) (e : o = ![128 * h.val, 0]) :
    v.readAt (Elt F) (Rect.unit (s := S512x1024) o S128x1024.size b).toLoadRect
        (v.writes (Elt F) f ((⟨Rect.unit (s := S512x1024) o' S512x1024.size b', p⟩ : View.Piece (Elt F) S512x1024 .f32) :: L))
      = rowsOf p h := by
  rw [View.readAt_unit v _ b e (rows_inb h)]
  have := View.readAt_writes_full v f b' b' p L
  rw [View.readAt_full] at this
  rw [this]; rfl

end

/-! ## What a device sends, and what it ends with -/

/-- A block of 128 rows as it is sent: the gated rows times the stacked experts, rounded to bf16. -/
def sendOf (wv : Vec F S2048x1024 .bf16) (rows : Vec F S128x2048 .bf16) : Vec F S1x128x1024 .bf16 := k0_pay21 wv rows

theorem sendOf1 (wv : Vec F S2048x1024 .bf16) (rows : Vec F S128x2048 .bf16) : k0_pay22 wv rows = sendOf wv rows := rfl
theorem sendOf2 (wv : Vec F S2048x1024 .bf16) (rows : Vec F S128x2048 .bf16) : k0_pay23 wv rows = sendOf wv rows := rfl
theorem sendOf3 (wv : Vec F S2048x1024 .bf16) (rows : Vec F S128x2048 .bf16) : k0_pay24 wv rows = sendOf wv rows := rfl
theorem sendOf4 (wv : Vec F S2048x1024 .bf16) (rows : Vec F S128x2048 .bf16) : k0_pay40 (k0_pay39 wv rows) = sendOf wv rows := rfl
theorem sendOf5 (wv : Vec F S2048x1024 .bf16) (rows : Vec F S128x2048 .bf16) : k0_pay41 wv rows = sendOf wv rows := rfl
theorem sendOf6 (wv : Vec F S2048x1024 .bf16) (rows : Vec F S128x2048 .bf16) : k0_pay42 wv rows = sendOf wv rows := rfl
theorem sendOf7 (wv : Vec F S2048x1024 .bf16) (rows : Vec F S128x2048 .bf16) : k0_pay43 wv rows = sendOf wv rows := rfl
theorem sendOf8 (wv : Vec F S2048x1024 .bf16) (rows : Vec F S128x2048 .bf16) : k0_pay60 wv rows = sendOf wv rows := rfl
theorem sendOf9 (wv : Vec F S2048x1024 .bf16) (rows : Vec F S128x2048 .bf16) : k0_pay61 wv rows = sendOf wv rows := rfl
theorem sendOf10 (wv : Vec F S2048x1024 .bf16) (rows : Vec F S128x2048 .bf16) : k0_pay63 (k0_pay62 wv rows) = sendOf wv rows := rfl
theorem sendOf11 (wv : Vec F S2048x1024 .bf16) (rows : Vec F S128x2048 .bf16) : k0_pay64 wv rows = sendOf wv rows := rfl

/-- A received block added to 128 rows of the result. -/
def addRows (p : Vec F S128x1024 .f32) (r : Vec F S1x128x1024 .bf16) : Vec F S128x1024 .f32 := k0_pay82 (k0_pay81 p) r

theorem addRows1 (p : Vec F S128x1024 .f32) (r : Vec F S1x128x1024 .bf16) : k0_pay83 p r = addRows p r := rfl
theorem addRows2 (p : Vec F S128x1024 .f32) (r : Vec F S1x128x1024 .bf16) : k0_pay84 p r = addRows p r := rfl
theorem addRows3 (p : Vec F S128x1024 .f32) (r : Vec F S1x128x1024 .bf16) : k0_pay85 p r = addRows p r := rfl
theorem addRows4 (p : Vec F S128x1024 .f32) (r : Vec F S1x128x1024 .bf16) : k0_pay86 p r = addRows p r := rfl
theorem addRows5 (p : Vec F S128x1024 .f32) (r : Vec F S1x128x1024 .bf16) : k0_pay87 p r = addRows p r := rfl
theorem addRows6 (p : Vec F S128x1024 .f32) (r : Vec F S1x128x1024 .bf16) : k0_pay88 p r = addRows p r := rfl
theorem addRows7 (p : Vec F S128x1024 .f32) (r : Vec F S1x128x1024 .bf16) : k0_pay90 (k0_pay89 p) r = addRows p r := rfl
theorem addRows8 (p : Vec F S128x1024 .f32) (r : Vec F S1x128x1024 .bf16) : k0_pay91 p r = addRows p r := rfl
theorem addRows9 (p : Vec F S128x1024 .f32) (r : Vec F S1x128x1024 .bf16) : k0_pay92 p r = addRows p r := rfl
theorem addRows10 (p : Vec F S128x1024 .f32) (r : Vec F S1x128x1024 .bf16) : k0_pay93 p r = addRows p r := rfl
theorem addRows11 (p : Vec F S128x1024 .f32) (r : Vec F S1x128x1024 .bf16) : k0_pay94 p r = addRows p r := rfl

/-- Device `c`'s scalings of chunk `k`. -/
def chunkGated (c k : Dev nD) (x : Vec F S2048x512 .bf16) (rw : Vec F S512x16 .bf16) (ix : Vec F S2048x2 .i32) :
    Fin 4 → Vec F S512x512 .bf16 :=
  gated (devWord c) rw (xPart x k) (firstPart ix k) (secondPart ix k)

/-- Block `h` of chunk `k`, as device `c` sends it. -/
def sentBlock (c k : Dev nD) (x : Vec F S2048x512 .bf16) (rw : Vec F S512x16 .bf16) (ix : Vec F S2048x2 .i32)
    (ew : Vec F S4x512x1024 .bf16) (h : Fin 4) : Vec F S1x128x1024 .bf16 :=
  sendOf (stacked ew) (gatedRows (chunkGated c k x rw ix) h)

/-- Device `c`'s own share of its own chunk. -/
def ownShare (c : Dev nD) (x : Vec F S2048x512 .bf16) (rw : Vec F S512x16 .bf16) (ix : Vec F S2048x2 .i32)
    (ew : Vec F S4x512x1024 .bf16) : Vec F S512x1024 .f32 :=
  k0_pay80 (stacked ew) (gatedAll (chunkGated c c x rw ix))

/-- The result: the own share with the three received blocks of each 128 rows added in order. -/
def resultOf (own : Vec F S512x1024 .f32) (r : Fin 3 → Fin 4 → Vec F S1x128x1024 .bf16) : Vec F S512x1024 .f32 := fun j =>
  let h : Fin 4 := ⟨(j 0).val / 128, by have := idx2_lt0 j; omega⟩
  addRows (addRows (addRows (rowsOf own h) (r 0 h)) (r 1 h)) (r 2 h) (ix2 ⟨(j 0).val % 128, by omega⟩ (j 1))

end Cert.KernelIdeal.Exchange

end
-- ==== Proof.Common.lean ====
/-
The protocol of the exchange: the cells every device's semaphores are, what each hands over, what is owed at launch.

Each device first signals the other three's barrier cells. The signal that device `p` sends to device `c` hands `c` the
four landing slots of `p`'s receive buffer that `c` writes. A device then sends twelve blocks, four to each of the
others; slot `4 g + h` goes to the device `g + 1` places on. The send cell of a slot gives the sender its slot back, the
receive cell gives the receiver the landed block. Nothing is used twice, so every cell has one round.
-/
module

public import proofs.«01_k».proof.Proof.Contents
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging cells' copy and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The argument blocks, as staged -/

/-- Device `c`'s tokens. -/
def xAt (c : Dev nD) : Vec F S2048x512 .bf16 := (win0_0.blk (0 : Fin 1)).view.read (Elt F) (m ((c : Thread nD τ).loc main_arg0))
/-- Device `c`'s router matrix. -/
def rwAt (c : Dev nD) : Vec F S512x16 .bf16 := (win0_1.blk (0 : Fin 1)).view.read (Elt F) (m ((c : Thread nD τ).loc main_arg1))
/-- Device `c`'s choices. -/
def ixAt (c : Dev nD) : Vec F S2048x2 .i32 := (win0_2.blk (0 : Fin 1)).view.read (Elt F) (m ((c : Thread nD τ).loc main_arg2))
/-- Device `c`'s experts. -/
def ewAt (c : Dev nD) : Vec F S4x512x1024 .bf16 := (win0_3.blk (0 : Fin 1)).view.read (Elt F) (m ((c : Thread nD τ).loc main_arg3))

/-- Block `h` that device `c` sends to device `k`. -/
def sentAt (c k : Dev nD) (h : Fin 4) : Vec F S1x128x1024 .bf16 := sentBlock c k (xAt m c) (rwAt m c) (ixAt m c) (ewAt m c) h

/-- Device `c`'s result. -/
def outAt (c : Dev nD) : Vec F S512x1024 .f32 :=
  resultOf (ownShare c (xAt m c) (rwAt m c) (ixAt m c) (ewAt m c)) fun g h => sentAt m (rot (3 - g.val) c) c h

/-! ## Slots -/

/-- The device slot `s` of device `c` goes to. -/
def dst (c : Dev nD) (s : Fin 12) : Dev nD := rot (s.val / 4 + 1) c
/-- The device that fills slot `s` of device `c`. -/
def src (c : Dev nD) (s : Fin 12) : Dev nD := rot (3 - s.val / 4) c
/-- Which 128 rows slot `s` holds. -/
def part (s : Fin 12) : Fin 4 := ⟨s.val % 4, Nat.mod_lt _ (by decide)⟩

theorem src_dst (c : Dev nD) (s : Fin 12) : src (dst c s) s = c := by revert c s; decide
theorem dst_src (c : Dev nD) (s : Fin 12) : dst (src c s) s = c := by revert c s; decide

theorem slot_inb (s : Fin 12) : ∀ a, (![s.val, 0, 0] : Fin 3 → ℕ) a + S1x128x1024.size a ≤ S12x128x1024.size a := by
  revert s; decide

/-- Slot `s` of a buffer of twelve. -/
abbrev slotRect (s : Fin 12) : Rect S12x128x1024 := Rect.unit (s := S12x128x1024) ![s.val, 0, 0] S1x128x1024.size (slot_inb s)

abbrev sM : Memref sig .tc .vmem S12x128x1024 .bf16 := Memref.whole cc0_scratch2
abbrev rM : Memref sig .tc .vmem S12x128x1024 .bf16 := Memref.whole cc0_scratch3

/-- Slot `s` of the send buffer, as it is transferred. -/
abbrev sSlot (s : Fin 12) : Memref sig .tc .vmem S128x1024 .bf16 :=
  (sM.slice (slotRect s) (fun _ => rfl)).squeeze S128x1024 squeezes_S1x128x1024_S128x1024
/-- Slot `s` of the receive buffer, as it is transferred. -/
abbrev rSlot (s : Fin 12) : Memref sig .tc .vmem S128x1024 .bf16 :=
  (rM.slice (slotRect s) (fun _ => rfl)).squeeze S128x1024 squeezes_S1x128x1024_S128x1024

theorem sSlot_set (s : Fin 12) : (sSlot s).view.set = sM.view.setOn (slotRect s).set := by
  show ((sM.view.slice (slotRect s)).reshape _ _).set = _
  rw [View.set_reshape, View.set_slice]; rfl
theorem rSlot_set (s : Fin 12) : (rSlot s).view.set = rM.view.setOn (slotRect s).set := by
  show ((rM.view.slice (slotRect s)).reshape _ _).set = _
  rw [View.set_reshape, View.set_slice]; rfl

/-- The credit of one block. -/
abbrev N : ℕ := (rSlot 0).view.dmaCredit
theorem N_pos : 0 < N := View.dmaCredit_pos _ (by decide)

/-- A landed block is the block that was sent. -/
theorem landed_read (s : Fin 12) (fs : (sM.view).ty.Contents (Elt F)) (fd : (rM.view).ty.Contents (Elt F)) :
    rM.view.readAt (Elt F) (slotRect s).toLoadRect ((rSlot s).view.write (Elt F) fd ((sSlot s).view.read (Elt F) fs) Finset.univ)
      = sM.view.readAt (Elt F) (slotRect s).toLoadRect fs := by
  funext y
  obtain ⟨x, rfl⟩ := (Shape.reshapeEquiv (s := S1x128x1024) (s' := S128x1024) (by decide)).surjective y
  exact congrFun (View.read_write_univ (v := (rSlot s).view) fd ((sSlot s).view.read (Elt F) fs)) x

/-! ## The cells -/

/-- The runtime's barrier semaphore. -/
abbrev barS : Sem sig := (SemArray.scalar (sig.barrier 0 rfl) : Sems sig S_).sem
/-- The send semaphore of slot `s`. -/
def sendQ (s : Fin 12) : DmaSem sig := ⟨5 + s.val, by have := s.isLt; show 5 + s.val < 29; omega⟩
/-- The receive semaphore of slot `s`. -/
def recvQ (s : Fin 12) : DmaSem sig := ⟨17 + s.val, by have := s.isLt; show 17 + s.val < 29; omega⟩

abbrev barCell (c : Dev nD) : GSem nD τ sig := ((c : Thread nD τ), .reg barS)
abbrev sendCell (c : Dev nD) (s : Fin 12) : GSem nD τ sig := ((c : Thread nD τ), .dma (sendQ s))
abbrev recvCell (c : Dev nD) (s : Fin 12) : GSem nD τ sig := ((c : Thread nD τ), .dma (recvQ s))

/-! ## What is handed over -/

/-- Slot `s` of device `c`'s send buffer, at contents `f`. -/
def sendPts (c : Dev nD) (s : Fin 12) (f : Buf (Elt F) (sM.view.loc (c : Thread nD τ))) : sProp 𝕄 :=
  sM.view.loc (c : Thread nD τ) ↦[sM.view.setOn (slotRect s).set]{fullShare} f
/-- Slot `s` of device `c`'s receive buffer, at contents `f`. -/
def recvPts (c : Dev nD) (s : Fin 12) (f : Buf (Elt F) (rM.view.loc (c : Thread nD τ))) : sProp 𝕄 :=
  rM.view.loc (c : Thread nD τ) ↦[rM.view.setOn (slotRect s).set]{fullShare} f

omit [FloatOps F] in
instance sendPts_storable (c : Dev nD) (s : Fin 12) (f) : BI.Storable (upEmb : UEmb _ 𝕄) (sendPts (F := F) c s f) := by
  unfold sendPts; infer_instance
omit [FloatOps F] in
instance recvPts_storable (c : Dev nD) (s : Fin 12) (f) : BI.Storable (upEmb : UEmb _ 𝕄) (recvPts (F := F) c s f) := by
  unfold recvPts; infer_instance

/-- Slot `h` of the four that go `g + 1` places on. -/
def slotOf (g : Fin 3) (h : Fin 4) : Fin 12 := ⟨4 * g.val + h.val, by have := g.isLt; have := h.isLt; omega⟩

/-- The device whose landing slots duty `g` of device `c`'s barrier hands over: the one `c` sends group `g` to. -/
def peer (c : Dev nD) (g : Fin 3) : Dev nD := rot (g.val + 1) c

theorem dst_slotOf (c : Dev nD) (g : Fin 3) (h : Fin 4) : dst c (slotOf g h) = peer c g := by revert c g h; decide

/-- A landing slot, at any contents. -/
def recvAny (c : Dev nD) (s : Fin 12) : sProp 𝕄 := iprop(∃ f, recvPts (F := F) c s f)
/-- A send slot, at any contents. -/
def sendAny (c : Dev nD) (s : Fin 12) : sProp 𝕄 := iprop(∃ f, sendPts (F := F) c s f)
/-- A landing slot holding what device `src c s` sends. -/
def recvFull (c : Dev nD) (s : Fin 12) : sProp 𝕄 :=
  iprop(∃ f, recvPts (F := F) c s f ∗ ⌜rM.view.readAt (Elt F) (slotRect s).toLoadRect f = sentAt m (src c s) c (part s)⌝)

/-- The four landing slots of group `g` of device `c`, at any contents. -/
def group (c : Dev nD) (g : Fin 3) : sProp 𝕄 :=
  iprop(recvAny (F := F) c (slotOf g 0) ∗ recvAny (F := F) c (slotOf g 1) ∗ recvAny (F := F) c (slotOf g 2) ∗ recvAny (F := F) c (slotOf g 3))
/-- What duty `g` of device `c`'s barrier hands `c`: the four landing slots it writes on its peer. -/
def barPay (c : Dev nD) (g : Fin 3) : sProp 𝕄 := group (F := F) (peer c g) g

omit [FloatOps F] in
instance recvAny_storable (c : Dev nD) (s : Fin 12) : BI.Storable (upEmb : UEmb _ 𝕄) (recvAny (F := F) c s) := by
  unfold recvAny; infer_instance
omit [FloatOps F] in
instance sendAny_storable (c : Dev nD) (s : Fin 12) : BI.Storable (upEmb : UEmb _ 𝕄) (sendAny (F := F) c s) := by
  unfold sendAny; infer_instance
instance recvFull_storable (c : Dev nD) (s : Fin 12) : BI.Storable (upEmb : UEmb _ 𝕄) (recvFull m c s) := by
  unfold recvFull; infer_instance
omit [FloatOps F] in
instance barPay_storable (c : Dev nD) (g : Fin 3) : BI.Storable (upEmb : UEmb _ 𝕄) (barPay (F := F) c g) := by
  unfold barPay group; infer_instance

/-! ## The schedule -/

/-- What a DMA cell hands over: a receive cell its landed block, a send cell its slot back. -/
def dmaPay (c : Dev nD) (q : DmaSem sig) : sProp 𝕄 :=
  if h : 17 ≤ q.val then recvFull m c ⟨q.val - 17, by have : q.val < 29 := q.isLt; omega⟩
  else if h' : 5 ≤ q.val then sendAny (F := F) c ⟨q.val - 5, by omega⟩ else iprop(emp)

theorem dmaPay_recv (c : Dev nD) (s : Fin 12) : dmaPay m c (recvQ s) = recvFull m c s := by
  unfold dmaPay
  rw [dif_pos (by show 17 ≤ 17 + s.val; omega)]
  exact congrArg (recvFull m c) (Fin.ext (by show 17 + s.val - 17 = s.val; omega))

theorem dmaPay_send (c : Dev nD) (s : Fin 12) : dmaPay m c (sendQ s) = sendAny (F := F) c s := by
  unfold dmaPay
  rw [dif_neg (by show ¬ 17 ≤ 5 + s.val; omega), dif_pos (by show 5 ≤ 5 + s.val; omega)]
  exact congrArg (sendAny (F := F) c) (Fin.ext (by show 5 + s.val - 5 = s.val; omega))

instance dmaPay_storable (c : Dev nD) (q : DmaSem sig) : BI.Storable (upEmb : UEmb _ 𝕄) (dmaPay m c q) := by
  unfold dmaPay; (repeat' split) <;> infer_instance

/-- The duties of a semaphore: the barrier's three, one for each transfer semaphore. -/
def dutiesOf (sm : SemLoc sig) : Finset (Fin 3) :=
  match sm with
  | .reg b => if b = barS then Finset.univ else ∅
  | .dma q => if 5 ≤ q.val then {0} else ∅

/-- What a duty is worth. -/
def unitOf (sm : SemLoc sig) : ℕ :=
  match sm with
  | .reg _ => 1
  | .dma _ => N

/-- What a duty hands over. -/
def payOf (c : Dev nD) (sm : SemLoc sig) (d : Fin 3) : sProp 𝕄 :=
  match sm with
  | .reg _ => barPay (F := F) c d
  | .dma q => dmaPay m c q

/-- One round of each cell. -/
def Rd : Rounds.Schedule (GSem nD τ sig) (Fin 3) 𝕄 where
  duties g r := if r = 0 ∧ g.1.2 = .tc then dutiesOf g.2 else ∅
  unitless _ := False
  amount g _ _ := unitOf g.2
  payload g _ d := payOf m g.1.1 g.2 d
  amount_pos g _ _ _ := by
    obtain ⟨t, b | q⟩ := g
    · exact Nat.one_pos
    · exact N_pos

instance Rd_payload_storable (g : GSem nD τ sig) (r : ℕ) (d : Fin 3) :
    BI.Storable (upEmb : UEmb _ 𝕄) ((Rd (F := F) m).payload g r d) := by
  obtain ⟨t, b | q⟩ := g
  · exact (inferInstance : BI.Storable (upEmb : UEmb _ 𝕄) (barPay (F := F) t.1 d))
  · exact (inferInstance : BI.Storable (upEmb : UEmb _ 𝕄) (dmaPay m t.1 q))

section Sched

variable (c : Dev nD) (s : Fin 12)

theorem duties_bar : (Rd (F := F) m).duties (barCell c) 0 = Finset.univ := by
  dsimp only [Rd]; rw [if_pos ⟨rfl, rfl⟩]; show (if barS = barS then Finset.univ else ∅) = _; rw [if_pos rfl]
theorem duties_send : (Rd (F := F) m).duties (sendCell c s) 0 = {0} := by
  dsimp only [Rd]; rw [if_pos ⟨rfl, rfl⟩]; exact if_pos (by show 5 ≤ 5 + s.val; omega)
theorem duties_recv : (Rd (F := F) m).duties (recvCell c s) 0 = {0} := by
  dsimp only [Rd]; rw [if_pos ⟨rfl, rfl⟩]; exact if_pos (by show 5 ≤ 17 + s.val; omega)
theorem duties_later (g : GSem nD τ sig) : ∀ r, 1 ≤ r → (Rd (F := F) m).duties g r = ∅ :=
  fun r hr => by dsimp only [Rd]; exact if_neg fun h => by omega

theorem amount_bar (d : Fin 3) : (Rd (F := F) m).amount (barCell c) 0 d = 1 := rfl
theorem amount_send (d : Fin 3) : (Rd (F := F) m).amount (sendCell c s) 0 d = N := rfl
theorem amount_recv (d : Fin 3) : (Rd (F := F) m).amount (recvCell c s) 0 d = N := rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c s) 0 = N := by
  unfold Schedule.expect Schedule.amountOf; rw [duties_send, Finset.sum_singleton, amount_send]
theorem expect_recv : (Rd (F := F) m).expect (recvCell c s) 0 = N := by
  unfold Schedule.expect Schedule.amountOf; rw [duties_recv, Finset.sum_singleton, amount_recv]

theorem payload_bar (d : Fin 3) : (Rd (F := F) m).payload (barCell c) 0 d = barPay c d := rfl
theorem payload_send (d : Fin 3) : (Rd (F := F) m).payload (sendCell c s) 0 d = sendAny (F := F) c s := dmaPay_send m c s
theorem payload_recv (d : Fin 3) : (Rd (F := F) m).payload (recvCell c s) 0 d = recvFull m c s := dmaPay_recv m c s

/-- The barrier cell's round hands over the three peers' landing slots. -/
theorem rest_bar : bigSep ((Rd (F := F) m).duties (barCell c) 0 \ ∅) (fun d => (Rd (F := F) m).payload (barCell c) 0 d)
    = iprop(barPay (F := F) c 0 ∗ barPay (F := F) c 1 ∗ barPay (F := F) c 2) := by
  rw [Finset.sdiff_empty, duties_bar, bigSep_univ_eq_bigSepL [0, 1, 2] (by decide) (by decide), bigSepL_cons_cons, bigSepL_cons_cons,
    bigSepL_singleton]
  rfl
theorem rest_send : bigSep ((Rd (F := F) m).duties (sendCell c s) 0 \ ∅) (fun d => (Rd (F := F) m).payload (sendCell c s) 0 d)
    = sendAny (F := F) c s := by
  rw [Finset.sdiff_empty, duties_send, bigSep_singleton, payload_send]
theorem rest_recv : bigSep ((Rd (F := F) m).duties (recvCell c s) 0 \ ∅) (fun d => (Rd (F := F) m).payload (recvCell c s) 0 d)
    = recvFull m c s := by
  rw [Finset.sdiff_empty, duties_recv, bigSep_singleton, payload_recv]

end Sched

/-! ## What each device owes at launch; the levels -/

/-- The slot sent when `n` slots are left after it. -/
def slotAt (n : ℕ) : Fin 12 := ⟨11 - n, by omega⟩

/-- The credit of the last `n` transfers. -/
def owedS (c : Dev nD) : ℕ → CellTallies nD τ sig Unit
  | 0 => 0
  | n + 1 => owedS c n + tallyAt (recvCell (dst c (slotAt n)) (slotAt n)) () N

/-- All twelve transfers and a unit on each of the other three barriers, the first signal's last. -/
def O₁ (c : Dev nD) : CellTallies nD τ sig Unit := owedS c 12 + tallyAt (barCell (rot 3 c)) () 1
def O₂ (c : Dev nD) : CellTallies nD τ sig Unit := O₁ c + tallyAt (barCell (rot 2 c)) () 1
def O₀ (c : Dev nD) : CellTallies nD τ sig Unit := O₂ c + tallyAt (barCell (rot 1 c)) () 1

def L (g : GSem nD τ sig) : Finset Unit := if g.1.2 = .tc then {()} else ∅
/-- Barrier cells at 1, receive cells at 2, everything else at 0. -/
def lvOf (sm : SemLoc sig) : ℕ :=
  match sm with
  | .reg _ => 1
  | .dma q => if 17 ≤ q.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 12) (u : Unit) : lv (recvCell c s) u = 2 := if_pos (by show 17 ≤ 17 + s.val; omega)

theorem owedS_pos {c : Dev nD} {n : ℕ} {g : GSem nD τ sig} {u : Unit} (h : 0 < owedS c n g u) : ∃ s, g = recvCell (dst c s) s := by
  induction n with
  | zero => exact absurd h (Nat.lt_irrefl 0)
  | succ n ih =>
    unfold owedS at h
    rw [Pi.add_apply, Finsupp.add_apply, tallyAt_apply] at h
    by_cases hg : g = recvCell (dst c (slotAt n)) (slotAt n) ∧ u = ()
    · exact ⟨slotAt n, hg.1⟩
    · rw [if_neg hg, Nat.add_zero] at h
      exact ih h

theorem O₀_pos {c : Dev nD} {g : GSem nD τ sig} {u : Unit} (h : 0 < O₀ c g u) :
    (∃ s, g = recvCell (dst c s) s) ∨ ∃ d, g = barCell d := by
  unfold O₀ O₂ O₁ at h
  rw [Pi.add_apply, Finsupp.add_apply, Pi.add_apply, Finsupp.add_apply, Pi.add_apply, Finsupp.add_apply, tallyAt_apply, tallyAt_apply,
    tallyAt_apply] at h
  by_cases h1 : g = barCell (rot 1 c) ∧ u = ()
  · exact .inr ⟨_, h1.1⟩
  by_cases h2 : g = barCell (rot 2 c) ∧ u = ()
  · exact .inr ⟨_, h2.1⟩
  by_cases h3 : g = barCell (rot 3 c) ∧ u = ()
  · exact .inr ⟨_, h3.1⟩
  rw [if_neg h1, if_neg h2, if_neg h3] at h
  simp only [Nat.add_zero] at h
  exact .inl (owedS_pos h)

omit [FloatOps F] in
theorem mayWait_stage (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨s, rfl⟩ | ⟨d, rfl⟩ <;> exact Finset.mem_singleton_self _)
      (fun p hp => by rw [Finset.mem_singleton.mp hp]; exact (if_neg (by omega) : (if 17 ≤ q.val then 2 else 0) = 0).le)
      (fun g u hg => by
        rcases O₀_pos hg with ⟨s, rfl⟩ | ⟨d, rfl⟩
        · rw [lv_recv]; decide
        · show 0 < 1; decide)
  · rw [MayWait_zero]; iintro -; iempintro

omit [FloatOps F] in
/-- At its barrier wait a device owes receive credit only, above its barrier cell. -/
theorem mayWait_bar (c : Dev nD) : (levAts L lv : sProp 𝕄) ⊢ MayWait (c : Thread nD τ) (.reg barS) () (owedS c 12) :=
  MayOwe.of_cut (L := L) (lev := lv) 1 (fun p hp => by rw [Finset.mem_singleton.mp hp, L_tc]; exact Finset.mem_singleton_self _)
    (fun g u hg => by obtain ⟨s, rfl⟩ := owedS_pos hg; exact Finset.mem_singleton_self _)
    (fun p hp => by rw [Finset.mem_singleton.mp hp]; exact le_refl 1)
    (fun g u hg => by obtain ⟨s, rfl⟩ := owedS_pos hg; rw [lv_recv]; decide)

end Cert.KernelIdeal.Exchange

end
-- ==== Proof.Rules.lean ====
/-
What a device's body does at each kind of semaphore operation, one rule each: a slot's transfer, the wait for a landed
slot, the wait for a slot to have gone out. The two waits close their cell, which nothing uses again.
-/
module

public import proofs.«01_k».proof.Proof.Common

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells of one device, numbered -/

/-- A device's cells: its barrier, its twelve send cells, its twelve receive cells. -/
def kcell (ck : Dev nD × Option (Fin 24)) : GSem nD τ sig :=
  match ck.2 with
  | none => barCell ck.1
  | some k => ((ck.1 : Thread nD τ), .dma ⟨5 + k.val, by have := k.isLt; show 5 + k.val < 29; omega⟩)

def sendK (s : Fin 12) : Option (Fin 24) := some ⟨s.val, by omega⟩
def recvK (s : Fin 12) : Option (Fin 24) := some ⟨12 + s.val, by omega⟩

theorem kcell_bar (c : Dev nD) : kcell (c, none) = barCell c := rfl
theorem kcell_send (c : Dev nD) (s : Fin 12) : kcell (c, sendK s) = sendCell c s := rfl
theorem kcell_recv (c : Dev nD) (s : Fin 12) : kcell (c, recvK s) = recvCell c s := by
  unfold kcell recvK recvCell recvQ
  refine congrArg (fun q : DmaSem sig => (((c : Thread nD τ), SemLoc.dma q) : GSem nD τ sig)) (Fin.ext ?_)
  show 5 + (12 + s.val) = 17 + s.val
  omega

/-- Every cell's invariant, under the names `K`, and that every cell is at its first round. -/
def records (K : Dev nD × Option (Fin 24) → ℕ) : sProp 𝕄 :=
  iprop((bigSep Finset.univ fun ck : Dev nD × Option (Fin 24) => cellInv ER (Rd (F := F) m) (K ck) (kcell ck))
    ∗ bigSep Finset.univ fun ck : Dev nD × Option (Fin 24) => reached ER (kcell ck) 0)

instance records_persistent (K : Dev nD × Option (Fin 24) → ℕ) : BI.Persistent (records (F := F) m K) := by
  unfold records; infer_instance

variable (K : Dev nD × Option (Fin 24) → ℕ)

theorem inv_at (ck : Dev nD × Option (Fin 24)) : records (F := F) m K ⊢ cellInv ER (Rd (F := F) m) (K ck) (kcell ck) := by
  unfold records
  iintro ⟨HI, -⟩
  ihave H := (show (bigSep Finset.univ fun ck : Dev nD × Option (Fin 24) => (cellInv ER (Rd (F := F) m) (K ck) (kcell ck) : sProp 𝕄))
    ⊢ cellInv ER (Rd (F := F) m) (K ck) (kcell ck) from bigSep_elim (Finset.mem_univ ck)) $$ HI
  iexact H
theorem reached_at (ck : Dev nD × Option (Fin 24)) : records (F := F) m K ⊢ reached ER (kcell ck) 0 := by
  unfold records
  iintro ⟨-, HI⟩
  ihave H := (show (bigSep Finset.univ fun ck : Dev nD × Option (Fin 24) => (reached ER (kcell ck) 0 : sProp 𝕄))
    ⊢ reached ER (kcell ck) 0 from bigSep_elim (Finset.mem_univ ck)) $$ HI
  iexact H

theorem inv_bar (c : Dev nD) : records (F := F) m K ⊢ cellInv ER (Rd (F := F) m) (K (c, none)) (barCell c) := inv_at m K (c, none)
theorem inv_send (c : Dev nD) (s : Fin 12) : records (F := F) m K ⊢ cellInv ER (Rd (F := F) m) (K (c, sendK s)) (sendCell c s) :=
  inv_at m K (c, sendK s)
theorem inv_recv (c : Dev nD) (s : Fin 12) : records (F := F) m K ⊢ cellInv ER (Rd (F := F) m) (K (c, recvK s)) (recvCell c s) := by
  rw [← kcell_recv]; exact inv_at m K (c, recvK s)
theorem reached_bar (c : Dev nD) : records (F := F) m K ⊢ reached ER (barCell c) 0 := reached_at m K (c, none)
theorem reached_send (c : Dev nD) (s : Fin 12) : records (F := F) m K ⊢ reached ER (sendCell c s) 0 := reached_at m K (c, sendK s)
theorem reached_recv (c : Dev nD) (s : Fin 12) : records (F := F) m K ⊢ reached ER (recvCell c s) 0 := by
  rw [← kcell_recv]; exact reached_at m K (c, recvK s)

/-! ## What a device holds for each slot -/

/-- The right to make slot `s`'s transfer. -/
def sendToks (c : Dev nD) (s : Fin 12) : sProp 𝕄 :=
  iprop(dutyTok ER (sendCell c s) 0 (0 : Fin 3) ∗ dutyTok ER (recvCell (dst c s) s) 0 (0 : Fin 3))
/-- What it waits with for slot `s` to arrive. -/
def recvToks (c : Dev nD) (s : Fin 12) : sProp 𝕄 :=
  iprop(cred (tallyAt (recvCell c s) () N) ∗ atPos ER (recvCell c s) 0 (∅ : Finset (Fin 3)) 0)
/-- What it waits with for slot `s` to have gone out, the transfer made. -/
def outToks (c : Dev nD) (s : Fin 12) : sProp 𝕄 :=
  iprop(cred (tallyAt (sendCell c s) () N) ∗ atPos ER (sendCell c s) 0 (∅ : Finset (Fin 3)) 0)
/-- What it owes, whatever it has waited for. -/
def Owing (c : Dev nD) (O : CellTallies nD τ sig Unit) : sProp 𝕄 := iprop(∃ W, owes (c : Thread nD τ) O W)

/-! ## The rules -/

/-- The signal to device `n = rot k c`, whose group `g` goes to `c`: `c`'s landing slots of that group go with it. -/
theorem wp_signal_peer (c n : Dev nD) (k : ℕ) (g : Fin 3) (hn : n = rot k c) (hp : peer (rot k c) g = c) (q : Sem sig) (hq : q = barS) (a : ℤ) (ha : a = 1)
    (O : CellTallies nD τ sig Unit) {α : Type} {Q : α → sProp 𝕄} {kk : PUnit → Prog (TpuEff nD τ sig (Elt F) Λ₀ .tc) α} :
    iprop(records m K ∗ dutyTok ER (barCell (rot k c)) 0 g ∗ group (F := F) c g ∗ Owing c (O + tallyAt (barCell (rot k c)) () 1))
      ⊢ iprop((Owing c O -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (n, .tc) q a) kk) Q) := by
  subst hn hq ha
  unfold Owing
  iintro ⟨#HR, Ht, Hg, ⟨%W, HO⟩⟩ Hk
  iapply (Rounds.wp_signal 𝒱₀ ER (Rd m) (c : Thread nD τ) none (dst := (rot k c : Thread nD τ)) (κ := K (rot k c, none)) (d := g)
      (k' := 1) (by rw [duties_bar]; exact Finset.mem_univ _) (amount_bar m _ g) () O rfl (W := W)) $$ [HO Ht Hg]
  · isplitr; · iapply (inv_bar m K (rot k c)); iexact HR
    isplitl [HO]; · iexact HO
    isplitl [Ht]; · iexact Ht
    isplitl [Hg]; · rw [payload_bar]; unfold barPay; rw [hp]; iexact Hg
    iapply (reached_bar m K (rot k c)); iexact HR
  iintro HO
  iapply Hk
  iexists W; iexact HO

/-- The wait for the three signals: every peer's landing slots, and the barrier cell is done with. -/
theorem wp_wait_peers (c : Dev nD) (q : Sem sig) (hq : q = barS) (a : ℤ) (ha : a = 3)
    {α : Type} {Q : α → sProp 𝕄} {kk : PUnit → Prog (TpuEff nD τ sig (Elt F) Λ₀ .tc) α} :
    iprop(records m K ∗ levAts L lv ∗ cred (tallyAt (barCell c) () 3) ∗ atPos ER (barCell c) 0 (∅ : Finset (Fin 3)) 0 ∗ Owing c (owedS c 12))
      ⊢ iprop(((group (F := F) (peer c 0) 0 ∗ group (F := F) (peer c 1) 1 ∗ group (F := F) (peer c 2) 2 ∗ semVal (barCell c) 0 ∗ Owing c (owedS c 12))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait q a) kk) Q) := by
  subst hq ha
  unfold Owing
  iintro ⟨#HR, #Hlev, Hc, Hat, ⟨%W, HO⟩⟩ Hk
  iapply (Rounds.wp_wait_rest_token 𝒱₀ ER (Rd m) (c : Thread nD τ) none (κ := K (c, none)) (k' := 3)
      (wpE_semWait_eq 𝒱₀ (c : Thread nD τ) none Set.univ) (Set.mem_univ _) () (O := owedS c 12) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨H0, H1, H2⟩
  imod (Rounds.cell_close ER (Rd m) (Set.mem_univ (K (c, none))) (fun h => h) (R := 0 + 1) (duties_later m (barCell c))) $$ [Hat] with Hz
  · isplitr; · iapply (inv_bar m K c); iexact HR
    iexact Hat
  iapply Hk
  isplitl [H0]; · iexact H0
  isplitl [H1]; · iexact H1
  isplitl [H2]; · iexact H2
  isplitl [Hz]; · iexact Hz
  iexists _; iexact HO

/-- Slot `s`'s transfer, to `n = dst c s`, the slot holding what is to be sent. -/
theorem wp_send_slot (c : Dev nD) (s : Fin 12) (j : ℕ) (hj : slotAt j = s) (n : Dev nD) (hn : n = dst c s)
    (q₁ q₂ : DmaSem sig) (hq₁ : q₁ = sendQ s) (hq₂ : q₂ = recvQ s)
    {hsc : (rSlot s : Memref sig (Dev.tc n : Thread nD τ).2.kind .vmem S128x1024 .bf16).view.ref.isScScratch = false}
    {hsrc : (sSlot s).view.WordExact} {hdst : (rSlot s).view.WordExact}
    {hsem : DmaTarget.Typed .vmem (.dma q₂) (.remote (Dev.tc n : Thread nD τ) (rSlot s) (.dma q₁) hsc)}
    {α : Type} {Q : α → sProp 𝕄} {k : PUnit → Prog (TpuEff nD τ sig (Elt F) Λ₀ .tc) α}
    (f : Buf (Elt F) (sM.view.loc (c : Thread nD τ)))
    (hf : sM.view.readAt (Elt F) (slotRect s).toLoadRect f = sentAt m c (dst c s) (part s)) :
    iprop(records m K ∗ sendPts c s f ∗ recvAny (dst c s) s ∗ sendToks c s ∗ atPos ER (sendCell c s) 0 (∅ : Finset (Fin 3)) 0
        ∗ Owing c (owedS c (j + 1)))
      ⊢ iprop(((outToks c s ∗ Owing c (owedS c j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot s) (.remote (Dev.tc n : Thread nD τ) (rSlot s) (.dma q₁) hsc) (.dma q₂) hsrc hdst hsem) k) Q) := by
  subst hn hq₁ hq₂ hj
  unfold sendPts recvAny sendToks Owing outToks
  iintro ⟨#HR, Hs, ⟨%fd, Hd⟩, ⟨Ht, Ht'⟩, Hat, ⟨%W, HO⟩⟩ Hk
  unfold recvPts
  iapply (Rounds.wp_send_pointsTo 𝒱₀ ER (Rd m) (c : Thread nD τ) none (κ₁ := K (c, sendK (slotAt j)))
    (κ₂ := K (dst c (slotAt j), recvK (slotAt j)))
    (r₁ := 0) (r₂ := 0) (d₁ := (0 : Fin 3)) (d₂ := (0 : Fin 3)) (q := fullShare) (fs := f) (fd := fd)
    (c' := (Dev.tc (dst c (slotAt j)) : Thread nD τ)) (src := sSlot (slotAt j)) (dst := rSlot (slotAt j))
    (O := owedS c j) (W := W)
    (by rw [duties_send]; exact Finset.mem_singleton_self _) (by rw [duties_recv]; exact Finset.mem_singleton_self _)
    () () N rfl (amount_send m c _ 0) (amount_recv m _ _ 0) rfl
    (by rw [payload_send]; unfold sendAny sendPts; rw [sSlot_set]; iintro H; iexists f; iexact H)
    (by
      rw [payload_recv]; unfold recvFull recvPts; rw [rSlot_set]
      iintro H; iexists _; isplitl [H]; · iexact H
      ipureintro
      rw [landed_read, hf, src_dst]))
    $$ [Hs Hd Ht Ht' HO]
  · isplitr; · iapply (inv_send m K c (slotAt j)); iexact HR
    isplitr; · iapply (inv_recv m K (dst c (slotAt j)) (slotAt j)); iexact HR
    isplitl [Hs]; · rw [sSlot_set]; iexact Hs
    isplitl [Hd]; · rw [rSlot_set]; iexact Hd
    isplitl [HO]; · iexact HO
    isplitl [Ht]; · iexact Ht
    isplitr; · iapply (reached_send m K c (slotAt j)); iexact HR
    isplitl [Ht']; · iexact Ht'
    iapply (reached_recv m K (dst c (slotAt j)) (slotAt j)); iexact HR
  iintro ⟨Hc, HO⟩
  iapply Hk
  isplitl [Hc Hat]
  · isplitl [Hc]; · iexact Hc
    iexact Hat
  iexists W; iexact HO

/-- The same, the slot as a store of `p` left it. -/
theorem wp_send_stored (c : Dev nD) (s : Fin 12) (j : ℕ) (hj : slotAt j = s) (n : Dev nD) (hn : n = dst c s)
    (q₁ q₂ : DmaSem sig) (hq₁ : q₁ = sendQ s) (hq₂ : q₂ = recvQ s)
    {hsc : (rSlot s : Memref sig (Dev.tc n : Thread nD τ).2.kind .vmem S128x1024 .bf16).view.ref.isScScratch = false}
    {hsrc : (sSlot s).view.WordExact} {hdst : (rSlot s).view.WordExact}
    {hsem : DmaTarget.Typed .vmem (.dma q₂) (.remote (Dev.tc n : Thread nD τ) (rSlot s) (.dma q₁) hsc)}
    {α : Type} {Q : α → sProp 𝕄} {k : PUnit → Prog (TpuEff nD τ sig (Elt F) Λ₀ .tc) α}
    (f : Buf (Elt F) (sM.view.loc (c : Thread nD τ))) (p : Vec F S1x128x1024 .bf16) :
    iprop(records m K ∗ (sM.view.loc (c : Thread nD τ) ↦[sM.view.setOn (slotRect s).set]{fullShare}
            sM.view.writes (Elt F) f [(⟨slotRect s, p⟩ : View.Piece (Elt F) S12x128x1024 .bf16)])
        ∗ recvAny (dst c s) s ∗ sendToks c s ∗ atPos ER (sendCell c s) 0 (∅ : Finset (Fin 3)) 0
        ∗ Owing c (owedS c (j + 1)) ∗ ⌜p = sentAt m c (dst c s) (part s)⌝)
      ⊢ iprop(((outToks c s ∗ Owing c (owedS c j)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot s) (.remote (Dev.tc n : Thread nD τ) (rSlot s) (.dma q₁) hsc) (.dma q₂) hsrc hdst hsem) k) Q) := by
  iintro ⟨#HR, Hs, Hd, Ht, Hat, HO, %hp⟩ Hk
  have hread : sM.view.readAt (Elt F) (slotRect s).toLoadRect
      (sM.view.writes (Elt F) f [(⟨slotRect s, p⟩ : View.Piece (Elt F) S12x128x1024 .bf16)]) = p :=
    View.read_write_univ (v := sM.view.slice (slotRect s)) f p
  iapply (wp_send_slot m K c s j hj n hn q₁ q₂ hq₁ hq₂
    (sM.view.writes (Elt F) f [(⟨slotRect s, p⟩ : View.Piece (Elt F) S12x128x1024 .bf16)]) (hread.trans hp)) $$ [Hs Hd Ht Hat HO]
  · isplitr; · iexact HR
    isplitl [Hs]; · unfold sendPts; iexact Hs
    isplitl [Hd]; · iexact Hd
    isplitl [Ht]; · iexact Ht
    isplitl [Hat]; · iexact Hat
    iexact HO
  iexact Hk

/-- The wait for slot `s` to arrive: the landed block, and the cell is done with. -/
theorem wp_recv_slot (c : Dev nD) (s : Fin 12) (q : DmaSem sig) (hq : q = recvQ s)
    {hsrc : (sSlot s).view.WordExact} {hdst : (rSlot s).view.WordExact}
    {α : Type} {Q : α → sProp 𝕄} {k : PUnit → Prog (TpuEff nD τ sig (Elt F) Λ₀ .tc) α} :
    iprop(records m K ∗ recvToks c s ∗ Owing c 0)
      ⊢ iprop(((recvFull m c s ∗ semVal (recvCell c s) 0 ∗ Owing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (sSlot s) (rSlot s) hsrc hdst) k) Q) := by
  subst hq
  unfold recvToks Owing
  iintro ⟨#HR, ⟨Hc, Hat⟩, ⟨%W, HO⟩⟩ Hk
  iapply (Rounds.wp_wait_rest_token 𝒱₀ ER (Rd m) (c : Thread nD τ) none (κ := K (c, recvK s))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_recv m K c s); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c s)) $$ Hpay
  imod (Rounds.cell_close ER (Rd m) (Set.mem_univ (K (c, recvK s))) (fun h => h) (R := 0 + 1) (duties_later m (recvCell c s)))
    $$ [Hat] with Hz
  · isplitr; · iapply (inv_recv m K c s); iexact HR
    iexact Hat
  iapply Hk
  isplitl [Hp]; · iexact Hp
  isplitl [Hz]; · iexact Hz
  iexists _; iexact HO

/-- The wait for slot `s` to have gone out: the slot again, and the cell is done with. -/
theorem wp_out_slot (c : Dev nD) (s : Fin 12) (q : DmaSem sig) (hq : q = sendQ s)
    {hsrc : (rSlot s).view.WordExact} {hdst : (sSlot s).view.WordExact}
    {α : Type} {Q : α → sProp 𝕄} {k : PUnit → Prog (TpuEff nD τ sig (Elt F) Λ₀ .tc) α} :
    iprop(records m K ∗ outToks c s ∗ Owing c 0)
      ⊢ iprop(((sendAny (F := F) c s ∗ semVal (sendCell c s) 0 ∗ Owing c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q (rSlot s) (sSlot s) hsrc hdst) k) Q) := by
  subst hq
  unfold outToks Owing
  iintro ⟨#HR, ⟨Hc, Hat⟩, ⟨%W, HO⟩⟩ Hk
  iapply (Rounds.wp_wait_rest_token 𝒱₀ ER (Rd m) (c : Thread nD τ) none (κ := K (c, sendK s))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_send m K c s); iexact HR
    isplitl [Hc]; · iexact Hc
    isplitl [HO]; · iexact HO
    isplitr; · rw [MayWait_zero]; iempintro
    iexact Hat
  iintro ⟨HO, Hat, -, Hpay⟩
  ihave Hp := (Entails.of_eq (rest_send m c s)) $$ Hpay
  imod (Rounds.cell_close ER (Rd m) (Set.mem_univ (K (c, sendK s))) (fun h => h) (R := 0 + 1) (duties_later m (sendCell c s)))
    $$ [Hat] with Hz
  · isplitr; · iapply (inv_send m K c s); iexact HR
    iexact Hat
  iapply Hk
  isplitl [Hp]; · iexact Hp
  isplitl [Hz]; · iexact Hz
  iexists _; iexact HO

end Cert.KernelIdeal.Exchange

end
-- ==== Proof.Loaded.lean ====
/-
What the body's loads read and its stores hold, in the words of the contents: the blocks a device sends, its own
share, the result.
-/
module

public import proofs.«01_k».proof.Proof.Common

@[expose] public section

set_option maxRecDepth 16384

noncomputable section

namespace Cert.KernelIdeal.Exchange

open Cert.KernelIdeal Cert.KernelIdeal.Gen
open Idealize.ShloMosaic Idealize.ShloMosaic.TcCoe Idealize.ShloMosaic.ValueIdx

variable {F : FTy → Type} [FloatOps F]

/-! ## The first chunk's payloads -/

section

variable (w : BitVec 32) (rw : Vec F S512x16 .bf16) (X : Vec F S512x512 .bf16) (i0 i1 : Vec F S512x1 .i32)

theorem first0 : k0_pay16 w (k0_pay7 X) (k0_pay8 (k0_pay1 rw) X) (k0_pay9 (F := F) i0) (k0_pay10 (F := F) i1) cols
    = gated0 w rw X i0 i1 := rfl

theorem first1 : k0_pay18 (k0_pay7 X) (k0_pay17 w (k0_pay8 (k0_pay1 rw) X) (k0_pay9 (F := F) i0) (k0_pay10 (F := F) i1) cols)
    = gated1 w rw X i0 i1 := rfl

theorem first2 : k0_pay19 w (k0_pay7 X) (k0_pay9 (F := F) i0) (k0_pay10 (F := F) i1)
    (k0_pay14 (k0_pay8 (k0_pay1 rw) X) (k0_pay9 (F := F) i0) (k0_pay10 (F := F) i1) cols)
    (k0_pay15 (k0_pay8 (k0_pay1 rw) X) (k0_pay9 (F := F) i0) (k0_pay10 (F := F) i1) cols) = gated2 w rw X i0 i1 := rfl

theorem first3 : k0_pay20 w (k0_pay7 X) (k0_pay9 (F := F) i0) (k0_pay10 (F := F) i1)
    (k0_pay14 (k0_pay8 (k0_pay1 rw) X) (k0_pay9 (F := F) i0) (k0_pay10 (F := F) i1) cols)
    (k0_pay15 (k0_pay8 (k0_pay1 rw) X) (k0_pay9 (F := F) i0) (k0_pay10 (F := F) i1) cols) = gated3 w rw X i0 i1 := rfl

end

theorem sendOf0 (wv : Vec F S2048x1024 .bf16) (rows : Vec F S128x2048 .bf16) : k0_pay21 wv rows = sendOf wv rows := rfl

theorem addRows0 (p : Vec F S128x1024 .f32) (r : Vec F S1x128x1024 .bf16) : k0_pay82 (k0_pay81 p) r = addRows p r := rfl

/-! ## Loads off the staged arguments -/

section

variable {sig' : RefSig} {κ : Kind} {sp : Space}

/-- The rows of one chunk, loaded off the tokens. -/
theorem tokens_load (v : View sig' κ sp S2048x512 .bf16) (f : v.ty.Contents (Elt F)) {o : Fin 2 → ℕ} (k : Dev nD)
    (b : ∀ a, o a + S512x512.size a ≤ S2048x512.size a) (e : o = ![512 * k.val, 0]) :
    v.readAt (Elt F) (Rect.unit (s := S2048x512) o S512x512.size b).toLoadRect f = xPart (v.read (Elt F) f) k := by
  subst e; rfl

/-- The first choices of one chunk. -/
theorem first_load (v : View sig' κ sp S2048x2 .i32) (f : v.ty.Contents (Elt F)) {o : Fin 2 → ℕ} (k : Dev nD)
    (b : ∀ a, o a + S512x1.size a ≤ S2048x2.size a) (e : o = ![512 * k.val, 0]) :
    v.readAt (Elt F) (Rect.unit (s := S2048x2) o S512x1.size b).toLoadRect f = firstPart (F := F) (v.read (Elt F) f) k := by
  subst e; rfl

/-- The second choices of one chunk. -/
theorem second_load (v : View sig' κ sp S2048x2 .i32) (f : v.ty.Contents (Elt F)) {o : Fin 2 → ℕ} (k : Dev nD)
    (b : ∀ a, o a + S512x1.size a ≤ S2048x2.size a) (e : o = ![512 * k.val, 1]) :
    v.readAt (Elt F) (Rect.unit (s := S2048x2) o S512x1.size b).toLoadRect f = secondPart (F := F) (v.read (Elt F) f) k := by
  subst e; rfl

/-- The stacked experts, as the four copies leave them. -/
theorem stacked_load (v : View sig' κ sp S2048x1024 .bf16) (f : v.ty.Contents (Elt F))
    {E0 E1 E2 E3 : Vec F S512x1024 .bf16} (ew : Vec F S4x512x1024 .bf16)
    {o0 o1 o2 o3 o : Fin 2 → ℕ} {b0 : ∀ a, o0 a + S512x1024.size a ≤ S2048x1024.size a}
    {b1 : ∀ a, o1 a + S512x1024.size a ≤ S2048x1024.size a} {b2 : ∀ a, o2 a + S512x1024.size a ≤ S2048x1024.size a}
    {b3 : ∀ a, o3 a + S512x1024.size a ≤ S2048x1024.size a} {L : List (View.Piece (Elt F) S2048x1024 .bf16)}
    {b : ∀ a, o a + S2048x1024.size a ≤ S2048x1024.size a}
    (e0 : o0 = ![0, 0]) (e1 : o1 = ![512, 0]) (e2 : o2 = ![1024, 0]) (e3 : o3 = ![1536, 0])
    (h0 : E0 = fun j => ew (ix3 0 (j 0) (j 1))) (h1 : E1 = fun j => ew (ix3 1 (j 0) (j 1)))
    (h2 : E2 = fun j => ew (ix3 2 (j 0) (j 1))) (h3 : E3 = fun j => ew (ix3 3 (j 0) (j 1))) :
    v.readAt (Elt F) (Rect.unit (s := S2048x1024) o S2048x1024.size b).toLoadRect (v.writes (Elt F) f
        ((⟨Rect.unit (s := S2048x1024) o3 S512x1024.size b3, E3⟩ : View.Piece (Elt F) S2048x1024 .bf16)
          :: (⟨Rect.unit (s := S2048x1024) o2 S512x1024.size b2, E2⟩ : View.Piece (Elt F) S2048x1024 .bf16)
          :: (⟨Rect.unit (s := S2048x1024) o1 S512x1024.size b1, E1⟩ : View.Piece (Elt F) S2048x1024 .bf16)
          :: (⟨Rect.unit (s := S2048x1024) o0 S512x1024.size b0, E0⟩ : View.Piece (Elt F) S2048x1024 .bf16) :: L))
      = stacked ew := by
  subst h0 h1 h2 h3
  exact stack_load v f (fun le j => ew (ix3 le (j 0) (j 1))) b0 b1 b2 b3 L b e0 e1 e2 e3

theorem expert_copy2 (v : View sig' κ sp S4x512x1024 .bf16) (f : v.ty.Contents (Elt F)) {o : Fin 3 → ℕ}
    (b : ∀ a, o a + S1x512x1024.size a ≤ S4x512x1024.size a) (le : Fin 4) (e : o = ![le.val, 0, 0]) :
    k0_pay2 (v.readAt (Elt F) (Rect.unit (s := S4x512x1024) o S1x512x1024.size b).toLoadRect f)
      = fun j => v.read (Elt F) f (ix3 le (j 0) (j 1)) := by
  unfold k0_pay2
  exact (shapeCast_self _ _).trans (expert_load v f b le e _)

end

/-! ## The blocks sent -/

variable (m : (ℓ : Loc nD τ sig) → Buf (Elt F) ℓ) (c : Dev nD)

/-- The device's experts, as the kernel stacks them. -/
theorem experts_eq {b0 : ∀ a, (![0, 0] : Fin 2 → ℕ) a + S512x1024.size a ≤ S2048x1024.size a}
    {b1 : ∀ a, (![512, 0] : Fin 2 → ℕ) a + S512x1024.size a ≤ S2048x1024.size a}
    {b2 : ∀ a, (![1024, 0] : Fin 2 → ℕ) a + S512x1024.size a ≤ S2048x1024.size a}
    {b3 : ∀ a, (![1536, 0] : Fin 2 → ℕ) a + S512x1024.size a ≤ S2048x1024.size a}
    {b : ∀ a, (![0, 0] : Fin 2 → ℕ) a + S2048x1024.size a ≤ S2048x1024.size a}
    {c0 : ∀ a, (![0, 0, 0] : Fin 3 → ℕ) a + S1x512x1024.size a ≤ S4x512x1024.size a}
    {c1 : ∀ a, (![1, 0, 0] : Fin 3 → ℕ) a + S1x512x1024.size a ≤ S4x512x1024.size a}
    {c2 : ∀ a, (![2, 0, 0] : Fin 3 → ℕ) a + S1x512x1024.size a ≤ S4x512x1024.size a}
    {c3 : ∀ a, (![3, 0, 0] : Fin 3 → ℕ) a + S1x512x1024.size a ≤ S4x512x1024.size a} :
    (Memref.whole cc0_scratch1).view.readCov (Val := Elt F)
        [(⟨Rect.unit (s := S2048x1024) ![1536, 0] S512x1024.size b3, k0_pay6 ((Memref.whole cc0_stg3_0).view.readAt (Elt F) (Rect.unit (s := S4x512x1024) ![3, 0, 0] S1x512x1024.size c3).toLoadRect (ewAt m c))⟩ : View.Piece (Elt F) S2048x1024 .bf16),
          (⟨Rect.unit (s := S2048x1024) ![1024, 0] S512x1024.size b2, k0_pay5 ((Memref.whole cc0_stg3_0).view.readAt (Elt F) (Rect.unit (s := S4x512x1024) ![2, 0, 0] S1x512x1024.size c2).toLoadRect (ewAt m c))⟩ : View.Piece (Elt F) S2048x1024 .bf16),
          (⟨Rect.unit (s := S2048x1024) ![512, 0] S512x1024.size b1, k0_pay4 (k0_pay3 ((Memref.whole cc0_stg3_0).view.readAt (Elt F) (Rect.unit (s := S4x512x1024) ![1, 0, 0] S1x512x1024.size c1).toLoadRect (ewAt m c)))⟩ : View.Piece (Elt F) S2048x1024 .bf16),
          (⟨Rect.unit (s := S2048x1024) ![0, 0] S512x1024.size b0, k0_pay2 ((Memref.whole cc0_stg3_0).view.readAt (Elt F) (Rect.unit (s := S4x512x1024) ![0, 0, 0] S1x512x1024.size c0).toLoadRect (ewAt m c))⟩ : View.Piece (Elt F) S2048x1024 .bf16)]
        (Rect.unit (s := S2048x1024) ![0, 0] S2048x1024.size b).toLoadRect
      = stacked (ewAt m c) :=
  stacked_load (Memref.whole cc0_scratch1).view _ (ewAt m c) rfl rfl rfl rfl
    (expert_copy2 (Memref.whole cc0_stg3_0).view _ _ 0 rfl) (expert_copy2 (Memref.whole cc0_stg3_0).view _ _ 1 rfl)
    (expert_copy2 (Memref.whole cc0_stg3_0).view _ _ 2 rfl) (expert_copy2 (Memref.whole cc0_stg3_0).view _ _ 3 rfl)

/-- The router matrix, loaded whole. -/
theorem router_load {b : ∀ a, (![0, 0] : Fin 2 → ℕ) a + S512x16.size a ≤ S512x16.size a} :
    (Memref.whole cc0_stg1_0).view.readAt (Elt F) (Rect.unit (s := S512x16) ![0, 0] S512x16.size b).toLoadRect (rwAt m c) = rwAt m c :=
  (View.readAt_full (Memref.whole cc0_stg1_0).view _ _).trans rfl

/-- A block of chunk `k`, off the loads. -/
theorem sent_eq {k : Dev nD} {h : Fin 4} {wv : Vec F S2048x1024 .bf16} {rw' : Vec F S512x16 .bf16} {X : Vec F S512x512 .bf16}
    {i0 i1 : Vec F S512x1 .i32} {p0 p1 p2 p3 : Vec F S512x512 .bf16} {o0 o1 o2 o3 o : Fin 2 → ℕ}
    {b0 : ∀ a, o0 a + S512x512.size a ≤ S2048x2048.size a}
    {b1 : ∀ a, o1 a + S512x512.size a ≤ S2048x2048.size a} {b2 : ∀ a, o2 a + S512x512.size a ≤ S2048x2048.size a}
    {b3 : ∀ a, o3 a + S512x512.size a ≤ S2048x2048.size a} {L : List (View.Piece (Elt F) S2048x2048 .bf16)}
    {b : ∀ a, o a + S128x2048.size a ≤ S2048x2048.size a} (hw : wv = stacked (ewAt m c))
    (h0 : p0 = gated0 (devWord c) rw' X i0 i1) (h1 : p1 = gated1 (devWord c) rw' X i0 i1)
    (h2 : p2 = gated2 (devWord c) rw' X i0 i1) (h3 : p3 = gated3 (devWord c) rw' X i0 i1)
    (hrw : rw' = rwAt m c) (hX : X = xPart (xAt m c) k) (hi0 : i0 = firstPart (ixAt m c) k) (hi1 : i1 = secondPart (ixAt m c) k)
    (e0 : o0 = ![512 * k.val, 0]) (e1 : o1 = ![512 * k.val, 512]) (e2 : o2 = ![512 * k.val, 1024]) (e3 : o3 = ![512 * k.val, 1536])
    (e : o = ![512 * k.val + 128 * h.val, 0]) :
    sendOf wv ((Memref.whole cc0_scratch0).view.readCov (Val := Elt F)
        ((⟨Rect.unit (s := S2048x2048) o3 S512x512.size b3, p3⟩ : View.Piece (Elt F) S2048x2048 .bf16)
          :: (⟨Rect.unit (s := S2048x2048) o2 S512x512.size b2, p2⟩ : View.Piece (Elt F) S2048x2048 .bf16)
          :: (⟨Rect.unit (s := S2048x2048) o1 S512x512.size b1, p1⟩ : View.Piece (Elt F) S2048x2048 .bf16)
          :: (⟨Rect.unit (s := S2048x2048) o0 S512x512.size b0, p0⟩ : View.Piece (Elt F) S2048x2048 .bf16) :: L)
        (Rect.unit (s := S2048x2048) o S128x2048.size b).toLoadRect)
      = sentAt m c k h := by
  subst h0 h1 h2 h3 hrw hX hi0 hi1 hw
  unfold sentAt sentBlock
  exact congrArg (sendOf _) (rows_load (Memref.whole cc0_scratch0).view _ (chunkGated c k (xAt m c) (rwAt m c) (ixAt m c))
    b0 b1 b2 b3 L b h e0 e1 e2 e3 e)

/-- The own share, off the loads. -/
theorem own_eq {wv : Vec F S2048x1024 .bf16} {rw' : Vec F S512x16 .bf16} {X : Vec F S512x512 .bf16}
    {i0 i1 : Vec F S512x1 .i32} {p0 p1 p2 p3 : Vec F S512x512 .bf16} {o0 o1 o2 o3 o : Fin 2 → ℕ}
    {b0 : ∀ a, o0 a + S512x512.size a ≤ S2048x2048.size a}
    {b1 : ∀ a, o1 a + S512x512.size a ≤ S2048x2048.size a} {b2 : ∀ a, o2 a + S512x512.size a ≤ S2048x2048.size a}
    {b3 : ∀ a, o3 a + S512x512.size a ≤ S2048x2048.size a} {L : List (View.Piece (Elt F) S2048x2048 .bf16)}
    {b : ∀ a, o a + S512x2048.size a ≤ S2048x2048.size a} (hw : wv = stacked (ewAt m c))
    (h0 : p0 = gated0 (devWord c) rw' X i0 i1) (h1 : p1 = gated1 (devWord c) rw' X i0 i1)
    (h2 : p2 = gated2 (devWord c) rw' X i0 i1) (h3 : p3 = gated3 (devWord c) rw' X i0 i1)
    (hrw : rw' = rwAt m c) (hX : X = xPart (xAt m c) c) (hi0 : i0 = firstPart (ixAt m c) c) (hi1 : i1 = secondPart (ixAt m c) c)
    (e0 : o0 = ![512 * c.val, 0]) (e1 : o1 = ![512 * c.val, 512]) (e2 : o2 = ![512 * c.val, 1024]) (e3 : o3 = ![512 * c.val, 1536])
    (e : o = ![512 * c.val, 0]) :
    k0_pay80 wv ((Memref.whole cc0_scratch0).view.readCov (Val := Elt F)
        ((⟨Rect.unit (s := S2048x2048) o3 S512x512.size b3, p3⟩ : View.Piece (Elt F) S2048x2048 .bf16)
          :: (⟨Rect.unit (s := S2048x2048) o2 S512x512.size b2, p2⟩ : View.Piece (Elt F) S2048x2048 .bf16)
          :: (⟨Rect.unit (s := S2048x2048) o1 S512x512.size b1, p1⟩ : View.Piece (Elt F) S2048x2048 .bf16)
          :: (⟨Rect.unit (s := S2048x2048) o0 S512x512.size b0, p0⟩ : View.Piece (Elt F) S2048x2048 .bf16) :: L)
        (Rect.unit (s := S2048x2048) o S512x2048.size b).toLoadRect)
      = ownShare c (xAt m c) (rwAt m c) (ixAt m c) (ewAt m c) := by
  subst h0 h1 h2 h3 hrw hX hi0 hi1 hw
  unfold ownShare
  exact congrArg (k0_pay80 _) (chunk_load (Memref.whole cc0_scratch0).view _ (chunkGated c c (xAt m c) (rwAt m c) (ixAt m c))
    b0 b1 b2 b3 L b e0 e1 e2 e3 e)

/-! ## The result -/

/-- Rows of the result loaded back past three later stores of other rows. -/
theorem row_hit {x y z h : ℕ} {o ox oy oz o' : Fin 2 → ℕ} {P X Y Z : Vec F S128x1024 .f32} {L : List (View.Piece (Elt F) S512x1024 .f32)}
    {b : ∀ a, o a + S128x1024.size a ≤ S512x1024.size a} {bx : ∀ a, ox a + S128x1024.size a ≤ S512x1024.size a}
    {by' : ∀ a, oy a + S128x1024.size a ≤ S512x1024.size a} {bz : ∀ a, oz a + S128x1024.size a ≤ S512x1024.size a}
    {b' : ∀ a, o' a + S128x1024.size a ≤ S512x1024.size a}
    (e : o = ![128 * h, 0]) (ex : ox = ![128 * x, 0]) (ey : oy = ![128 * y, 0]) (ez : oz = ![128 * z, 0]) (e' : o' = ![128 * h, 0])
    (hne : h ≠ x ∧ h ≠ y ∧ h ≠ z) :
    (Memref.whole cc0_stg4_0).view.readCov (Val := Elt F)
        ((⟨Rect.unit (s := S512x1024) ox S128x1024.size bx, X⟩ : View.Piece (Elt F) S512x1024 .f32)
          :: (⟨Rect.unit (s := S512x1024) oy S128x1024.size by', Y⟩ : View.Piece (Elt F) S512x1024 .f32)
          :: (⟨Rect.unit (s := S512x1024) oz S128x1024.size bz, Z⟩ : View.Piece (Elt F) S512x1024 .f32)
          :: (⟨Rect.unit (s := S512x1024) o' S128x1024.size b', P⟩ : View.Piece (Elt F) S512x1024 .f32) :: L)
        (Rect.unit (s := S512x1024) o S128x1024.size b).toLoadRect = P :=
  (outRows_miss (Memref.whole cc0_stg4_0).view _ b bx X _ e ex hne.1).trans
    ((outRows_miss (Memref.whole cc0_stg4_0).view _ b by' Y _ e ey hne.2.1).trans
      ((outRows_miss (Memref.whole cc0_stg4_0).view _ b bz Z _ e ez hne.2.2).trans
        (outRows_hit (Memref.whole cc0_stg4_0).view _ b b' P L (e.trans e'.symm))))

/-- Rows of the result loaded back off the own share, no store of rows before them. -/
theorem row_base (h : Fin 4) {o o' : Fin 2 → ℕ} {P : Vec F S512x1024 .f32}
    {b : ∀ a, o a + S128x1024.size a ≤ S512x1024.size a} {b' : ∀ a, o' a + S512x1024.size a ≤ S512x1024.size a} (e : o = ![128 * h.val, 0]) :
    (Memref.whole cc0_stg4_0).view.readCov (Val := Elt F)
        [(⟨Rect.unit (s := S512x1024) o' S512x1024.size b', P⟩ : View.Piece (Elt F) S512x1024 .f32)]
        (Rect.unit (s := S512x1024) o S128x1024.size b).toLoadRect = rowsOf P h :=
  outRows_base (Memref.whole cc0_stg4_0).view _ h b b' P [] e

/-- One store of other rows passed over. -/
theorem row_miss {h x : ℕ} {o ox : Fin 2 → ℕ} {X Q : Vec F S128x1024 .f32} {L : List (View.Piece (Elt F) S512x1024 .f32)}
    {b : ∀ a, o a + S128x1024.size a ≤ S512x1024.size a} {bx : ∀ a, ox a + S128x1024.size a ≤ S512x1024.size a}
    (e : o = ![128 * h, 0]) (ex : ox = ![128 * x, 0]) (hne : h ≠ x)
    (hq : (Memref.whole cc0_stg4_0).view.readCov (Val := Elt F) L (Rect.unit (s := S512x1024) o S128x1024.size b).toLoadRect = Q) :
    (Memref.whole cc0_stg4_0).view.readCov (Val := Elt F)
        ((⟨Rect.unit (s := S512x1024) ox S128x1024.size bx, X⟩ : View.Piece (Elt F) S512x1024 .f32) :: L)
        (Rect.unit (s := S512x1024) o S128x1024.size b).toLoadRect = Q :=
  (outRows_miss (Memref.whole cc0_stg4_0).view _ b bx X _ e ex hne).trans hq

theorem add_of {p q : Vec F S128x1024 .f32} {r : Vec F S1x128x1024 .bf16} (h : p = q) : addRows p r = addRows q r := by rw [h]

/-- The result, off the stores. -/
theorem out_eq (fo : (Memref.whole cc0_stg4_0).view.ty.Contents (Elt F)) {own : Vec F S512x1024 .f32}
    {r : Fin 3 → Fin 4 → Vec F S1x128x1024 .bf16} {p0 p1 p2 p3 q0 q1 q2 q3 s0 s1 s2 s3 : Vec F S128x1024 .f32}
    {L : List (View.Piece (Elt F) S512x1024 .f32)}
    {b0 : ∀ a, (![0, 0] : Fin 2 → ℕ) a + S128x1024.size a ≤ S512x1024.size a}
    {b1 : ∀ a, (![128, 0] : Fin 2 → ℕ) a + S128x1024.size a ≤ S512x1024.size a}
    {b2 : ∀ a, (![256, 0] : Fin 2 → ℕ) a + S128x1024.size a ≤ S512x1024.size a}
    {b3 : ∀ a, (![384, 0] : Fin 2 → ℕ) a + S128x1024.size a ≤ S512x1024.size a}
    (hs0 : s0 = addRows q0 (r 2 0)) (hs1 : s1 = addRows q1 (r 2 1)) (hs2 : s2 = addRows q2 (r 2 2)) (hs3 : s3 = addRows q3 (r 2 3))
    (hq0 : q0 = addRows p0 (r 1 0)) (hq1 : q1 = addRows p1 (r 1 1)) (hq2 : q2 = addRows p2 (r 1 2)) (hq3 : q3 = addRows p3 (r 1 3))
    (hp0 : p0 = addRows (rowsOf own 0) (r 0 0)) (hp1 : p1 = addRows (rowsOf own 1) (r 0 1))
    (hp2 : p2 = addRows (rowsOf own 2) (r 0 2)) (hp3 : p3 = addRows (rowsOf own 3) (r 0 3)) :
    (Memref.whole cc0_stg4_0).view.writes (Elt F) fo
        ((⟨Rect.unit (s := S512x1024) ![384, 0] S128x1024.size b3, s3⟩ : View.Piece (Elt F) S512x1024 .f32)
          :: (⟨Rect.unit (s := S512x1024) ![256, 0] S128x1024.size b2, s2⟩ : View.Piece (Elt F) S512x1024 .f32)
          :: (⟨Rect.unit (s := S512x1024) ![128, 0] S128x1024.size b1, s1⟩ : View.Piece (Elt F) S512x1024 .f32)
          :: (⟨Rect.unit (s := S512x1024) ![0, 0] S128x1024.size b0, s0⟩ : View.Piece (Elt F) S512x1024 .f32) :: L)
      = resultOf own r := by
  have key : ∀ j : S512x1024.Idx, ∀ n : Fin 4, (j 0).val / 128 = n.val → ∀ (P : Vec F S128x1024 .f32),
      P = addRows (addRows (addRows (rowsOf own n) (r 0 n)) (r 1 n)) (r 2 n) →
      resultOf own r j = P (ix2 ⟨(j 0).val % 128, by omega⟩ (j 1)) := by
    intro j n hn P hP
    have hlt := idx2_lt0 j
    unfold resultOf
    rw [hP]
    have : (⟨(j 0).val / 128, by omega⟩ : Fin 4) = n := Fin.ext hn
    simp only [this]
  subst hp0 hp1 hp2 hp3 hq0 hq1 hq2 hq3 hs0 hs1 hs2 hs3
  refine (View.read_whole cc0_stg4_0 _).symm.trans ?_
  funext j
  have hlt := idx2_lt0 j
  rcases (by omega : (j 0).val / 128 = 3 ∨ (j 0).val / 128 = 2 ∨ (j 0).val / 128 = 1 ∨ (j 0).val / 128 = 0) with h | h | h | h
  · refine Eq.trans ?_ (key j 3 h _ rfl).symm
    exact View.read_writes_cons_rows_of_mem (Memref.whole cc0_stg4_0).view fo b3 _ _ j (ix2 ⟨(j 0).val % 128, by omega⟩ (j 1)) rfl
      (by show (j 0).val = 384 + (j 0).val % 128; omega) rfl
  · refine Eq.trans ?_ (key j 2 h _ rfl).symm
    refine (View.read_writes_cons_rows_of_not_mem (W := 128) (Memref.whole cc0_stg4_0).view fo b3 _ _ j rfl rfl (by omega)).trans ?_
    exact View.read_writes_cons_rows_of_mem (Memref.whole cc0_stg4_0).view fo b2 _ _ j (ix2 ⟨(j 0).val % 128, by omega⟩ (j 1)) rfl
      (by show (j 0).val = 256 + (j 0).val % 128; omega) rfl
  · refine Eq.trans ?_ (key j 1 h _ rfl).symm
    refine (View.read_writes_cons_rows_of_not_mem (W := 128) (Memref.whole cc0_stg4_0).view fo b3 _ _ j rfl rfl (by omega)).trans ?_
    refine (View.read_writes_cons_rows_of_not_mem (W := 128) (Memref.whole cc0_stg4_0).view fo b2 _ _ j rfl rfl (by omega)).trans ?_
    exact View.read_writes_cons_rows_of_mem (Memref.whole cc0_stg4_0).view fo b1 _ _ j (ix2 ⟨(j 0).val % 128, by omega⟩ (j 1)) rfl
      (by show (j 0).val = 128 + (j 0).val % 128; omega) rfl
  · refine Eq.trans ?_ (key j 0 h _ rfl).symm
    refine (View.read_writes_cons_rows_of_not_mem (W := 128) (Memref.whole cc0_stg4_0).view fo b3 _ _ j rfl rfl (by omega)).trans ?_
    refine (View.read_writes_cons_rows_of_not_mem (W := 128) (Memref.whole cc0_stg4_0).view fo b2 _ _ j rfl rfl (by omega)).trans ?_
    refine (View.read_writes_cons_rows_of_not_mem (W := 128) (Memref.whole cc0_stg4_0).view fo b1 _ _ j rfl rfl (by omega)).trans ?_
    exact View.read_writes_cons_rows_of_mem (Memref.whole cc0_stg4_0).view fo b0 _ _ j (ix2 ⟨(j 0).val % 128, by omega⟩ (j 1)) rfl
      (by show (j 0).val = 0 + (j 0).val % 128; omega) rfl

end Cert.KernelIdeal.Exchange

end
-- ==== Proof.Body.lean ====
/-
The body at a symbolic device.
-/
module

public import proofs.«01_k».proof.Proof.Rules
public import proofs.«01_k».proof.Proof.Loaded

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Option (Fin 24) → ℕ)

/-- A chain over the twelve slots. -/
def chain (Φ : Fin 12 → sProp 𝕄) : sProp 𝕄 :=
  iprop(Φ ⟨0, by decide⟩ ∗ Φ ⟨1, by decide⟩ ∗ Φ ⟨2, by decide⟩ ∗ Φ ⟨3, by decide⟩ ∗ Φ ⟨4, by decide⟩ ∗ Φ ⟨5, by decide⟩
    ∗ Φ ⟨6, by decide⟩ ∗ Φ ⟨7, by decide⟩ ∗ Φ ⟨8, by decide⟩ ∗ Φ ⟨9, by decide⟩ ∗ Φ ⟨10, by decide⟩ ∗ Φ ⟨11, by decide⟩)

/-- What a device holds for its transfer of slot `s`, but the landing slot. -/
def outKit (c : Dev nD) (s : Fin 12) : sProp 𝕄 :=
  iprop(sendToks (F := F) c s ∗ atPos ER (sendCell c s) 0 (∅ : Finset (Fin 3)) 0)

/-- A whole staged or scratch array. -/
abbrev wholePts (c : Dev nD) (b : Ref sig .tc) (f : Buf (Elt F) ((Memref.whole b).view.loc (c : Thread nD τ))) : sProp 𝕄 :=
  (Memref.whole b).view.loc (c : Thread nD τ) ↦{fullShare} f

/-- What the body starts from besides the staged arrays. -/
def bodyIn (c : Dev nD) : sProp 𝕄 :=
  iprop(records m K ∗ levAts L lv ∗ Owing (F := F) c (O₀ c)
    ∗ (cred (tallyAt (barCell c) () 3) ∗ atPos ER (barCell c) 0 (∅ : Finset (Fin 3)) 0)
    ∗ (dutyTok ER (barCell (rot 1 c)) 0 (2 : Fin 3) ∗ dutyTok ER (barCell (rot 2 c)) 0 (1 : Fin 3) ∗ dutyTok ER (barCell (rot 3 c)) 0 (0 : Fin 3))
    ∗ (group (F := F) c 2 ∗ group (F := F) c 1 ∗ group (F := F) c 0)
    ∗ chain (sendAny (F := F) c) ∗ chain (outKit (F := F) c) ∗ chain (recvToks (F := F) c)
    ∗ (∃ f, wholePts (F := F) c cc0_scratch0 f) ∗ (∃ f, wholePts (F := F) c cc0_scratch1 f))

/-- What the body leaves besides the staged arrays. -/
def bodyOut (c : Dev nD) : sProp 𝕄 :=
  iprop(Owing (F := F) c 0 ∗ semVal (barCell c) 0 ∗ chain (fun s => semVal (sendCell c s) 0) ∗ chain (fun s => semVal (recvCell c s) 0)
    ∗ chain (sendAny (F := F) c) ∗ chain (recvAny (F := F) c)
    ∗ (∃ f, wholePts (F := F) c cc0_scratch0 f) ∗ (∃ f, wholePts (F := F) c cc0_scratch1 f))

theorem dev1 (c : Dev nD) : (⟨k0_dev1 c, k0_dev1_lt c⟩ : Dev nD) = rot 1 c := Fin.ext (k0_dev1_eq c)
theorem dev2 (c : Dev nD) : (⟨k0_dev2 c, k0_dev2_lt c⟩ : Dev nD) = rot 2 c := Fin.ext (k0_dev2_eq c)
theorem dev3 (c : Dev nD) : (⟨k0_dev3 c, k0_dev3_lt c⟩ : Dev nD) = rot 3 c := Fin.ext (k0_dev3_eq c)

theorem dev4 (c : Dev nD) : (⟨k0_dev4 c, k0_dev4_lt c⟩ : Dev nD) = rot 1 c := Fin.ext (k0_dev4_eq c)
theorem dev5 (c : Dev nD) : (⟨k0_dev5 c, k0_dev5_lt c⟩ : Dev nD) = rot 1 c := Fin.ext (k0_dev5_eq c)
theorem dev6 (c : Dev nD) : (⟨k0_dev6 c, k0_dev6_lt c⟩ : Dev nD) = rot 1 c := Fin.ext (k0_dev6_eq c)
theorem dev7 (c : Dev nD) : (⟨k0_dev7 c, k0_dev7_lt c⟩ : Dev nD) = rot 1 c := Fin.ext (k0_dev7_eq c)
theorem dev8 (c : Dev nD) : (⟨k0_dev8 c, k0_dev8_lt c⟩ : Dev nD) = rot 2 c := Fin.ext (k0_dev8_eq c)
theorem dev9 (c : Dev nD) : (⟨k0_dev9 c, k0_dev9_lt c⟩ : Dev nD) = rot 2 c := Fin.ext (k0_dev9_eq c)
theorem dev10 (c : Dev nD) : (⟨k0_dev10 c, k0_dev10_lt c⟩ : Dev nD) = rot 2 c := Fin.ext (k0_dev10_eq c)
theorem dev11 (c : Dev nD) : (⟨k0_dev11 c, k0_dev11_lt c⟩ : Dev nD) = rot 2 c := Fin.ext (k0_dev11_eq c)
theorem dev12 (c : Dev nD) : (⟨k0_dev12 c, k0_dev12_lt c⟩ : Dev nD) = rot 3 c := Fin.ext (k0_dev12_eq c)
theorem dev13 (c : Dev nD) : (⟨k0_dev13 c, k0_dev13_lt c⟩ : Dev nD) = rot 3 c := Fin.ext (k0_dev13_eq c)
theorem dev14 (c : Dev nD) : (⟨k0_dev14 c, k0_dev14_lt c⟩ : Dev nD) = rot 3 c := Fin.ext (k0_dev14_eq c)
theorem dev15 (c : Dev nD) : (⟨k0_dev15 c, k0_dev15_lt c⟩ : Dev nD) = rot 3 c := Fin.ext (k0_dev15_eq c)
theorem peer2 (c : Dev nD) : peer (rot 1 c) 2 = c := by revert c; decide
theorem peer1 (c : Dev nD) : peer (rot 2 c) 1 = c := by revert c; decide
theorem peer0 (c : Dev nD) : peer (rot 3 c) 0 = c := by revert c; decide

/-- A buffer's contents replaced by equal ones. -/
theorem contents_eq (c : Dev nD) (b : Ref sig .tc) (f g : Buf (Elt F) ((Memref.whole b).view.loc (c : Thread nD τ))) :
    iprop(wholePts c b f ∗ ⌜f = g⌝) ⊢ (wholePts c b g : sProp 𝕄) := by
  iintro ⟨Hf, %he⟩
  subst he
  iexact Hf

set_option maxHeartbeats 4000000 in
theorem sound_body (c : Dev nD) (fo : Buf (Elt F) ((Memref.whole cc0_stg4_0).view.loc (c : Thread nD τ))) (Kt : PUnit → sProp 𝕄) :
    iprop(bodyIn m K c
        ∗ (wholePts c cc0_stg0_0 (xAt m c) ∗ wholePts c cc0_stg1_0 (rwAt m c) ∗ wholePts c cc0_stg2_0 (ixAt m c)
            ∗ wholePts c cc0_stg3_0 (ewAt m c) ∗ wholePts c cc0_stg4_0 fo)
        ∗ ((bodyOut c ∗ wholePts c cc0_stg0_0 (xAt m c) ∗ wholePts c cc0_stg1_0 (rwAt m c) ∗ wholePts c cc0_stg2_0 (ixAt m c)
            ∗ wholePts c cc0_stg3_0 (ewAt m c) ∗ wholePts c cc0_stg4_0 (outAt m c)) -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5) Kt := by
  simp only [cc0_body_eq_skeleton]
  unfold cc0_body_skel
  simp only [k0_part29_eq_skeleton]
  unfold k0_part29_skel
  simp only [k0_part1_eq_skeleton, k0_part2_eq_skeleton, k0_part3_eq_skeleton, k0_part4_eq_skeleton, k0_part5_eq_skeleton, k0_part6_eq_skeleton, k0_part7_eq_skeleton, k0_part8_eq_skeleton,
    k0_part9_eq_skeleton, k0_part10_eq_skeleton, k0_part11_eq_skeleton, k0_part12_eq_skeleton, k0_part13_eq_skeleton,
    k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton,
    k0_part24_eq_skeleton, k0_part25_eq_skeleton, k0_part26_eq_skeleton, k0_part27_eq_skeleton, k0_part28_eq_skeleton]
  unfold bodyIn chain outKit sendAny sendPts
  iintro ⟨⟨#HR, #Hlev, HO, ⟨HcB, HaB⟩, ⟨Ht1, Ht2, Ht3⟩, ⟨Hg2, Hg1, Hg0⟩,
    ⟨⟨%s0, Hs0⟩, ⟨%s1, Hs1⟩, ⟨%s2, Hs2⟩, ⟨%s3, Hs3⟩, ⟨%s4, Hs4⟩, ⟨%s5, Hs5⟩, ⟨%s6, Hs6⟩, ⟨%s7, Hs7⟩, ⟨%s8, Hs8⟩, ⟨%s9, Hs9⟩, ⟨%s10, Hs10⟩, ⟨%s11, Hs11⟩⟩,
    ⟨⟨Hk0, Ha0⟩, ⟨Hk1, Ha1⟩, ⟨Hk2, Ha2⟩, ⟨Hk3, Ha3⟩, ⟨Hk4, Ha4⟩, ⟨Hk5, Ha5⟩, ⟨Hk6, Ha6⟩, ⟨Hk7, Ha7⟩, ⟨Hk8, Ha8⟩, ⟨Hk9, Ha9⟩, ⟨Hk10, Ha10⟩, ⟨Hk11, Ha11⟩⟩,
    ⟨Hv0, Hv1, Hv2, Hv3, Hv4, Hv5, Hv6, Hv7, Hv8, Hv9, Hv10, Hv11⟩, ⟨%fg, Hg⟩, ⟨%fw, Hw⟩⟩,
    ⟨Hx, Hrw, Hix, Hew, Hout⟩, Hk⟩
  sl_exec
  unfold O₀
  iapply (wp_signal_peer m K c _ 1 2 (dev1 c) (peer2 c) _ rfl _ (by decide) (O₂ c)) $$ [Ht1 Hg2 HO]
  · isplitr; · iexact HR
    isplitl [Ht1]; · iexact Ht1
    isplitl [Hg2]; · iexact Hg2
    iexact HO
  iintro HO
  sl_exec
  unfold O₂
  iapply (wp_signal_peer m K c _ 2 1 (dev2 c) (peer1 c) _ rfl _ (by decide) (O₁ c)) $$ [Ht2 Hg1 HO]
  · isplitr; · iexact HR
    isplitl [Ht2]; · iexact Ht2
    isplitl [Hg1]; · iexact Hg1
    iexact HO
  iintro HO
  sl_exec
  unfold O₁
  iapply (wp_signal_peer m K c _ 3 0 (dev3 c) (peer0 c) _ rfl _ (by decide) (owedS c 12)) $$ [Ht3 Hg0 HO]
  · isplitr; · iexact HR
    isplitl [Ht3]; · iexact Ht3
    isplitl [Hg0]; · iexact Hg0
    iexact HO
  iintro HO
  sl_exec
  iapply (wp_wait_peers m K c _ rfl _ (by decide)) $$ [HcB HaB HO]
  · isplitr; · iexact HR
    isplitr; · iexact Hlev
    isplitl [HcB]; · iexact HcB
    isplitl [HaB]; · iexact HaB
    iexact HO
  unfold group
  iintro ⟨⟨Hr0, Hr1, Hr2, Hr3⟩, ⟨Hr4, Hr5, Hr6, Hr7⟩, ⟨Hr8, Hr9, Hr10, Hr11⟩, HzB, HO⟩
  sl_exec
  iapply (wp_send_stored m K c ⟨0, by decide⟩ 11 rfl _ (dev4 c) _ _ rfl rfl s0 _) $$ [Hs0 Hr0 Hk0 Ha0 HO]
  · isplitr; · iexact HR
    isplitl [Hs0]; · iexact Hs0
    isplitl [Hr0]; · iexact Hr0
    isplitl [Hk0]; · iexact Hk0
    isplitl [Ha0]; · iexact Ha0
    isplitl [HO]; · iexact HO
    ipureintro; exact (sendOf0 _ _).trans (sent_eq m c (experts_eq m c)
      (first0 (devWord c) _ _ _ _) (first1 (devWord c) _ _ _ _) (first2 (devWord c) _ _ _ _) (first3 (devWord c) _ _ _ _)
      (router_load m c) (tokens_load _ _ _ _ (k0_off1_eq c 0)) (first_load _ _ _ _ (k0_off2_eq c 0)) (second_load _ _ _ _ (k0_off3_eq c 0))
      (k0_off4_eq c 0) (k0_off5_eq c 0) (k0_off6_eq c 0) (k0_off7_eq c 0) (k0_off8_eq c 0 0))
  iintro ⟨Hq0, HO⟩
  sl_exec
  iapply (wp_send_stored m K c ⟨1, by decide⟩ 10 rfl _ (dev5 c) _ _ rfl rfl s1 _) $$ [Hs1 Hr1 Hk1 Ha1 HO]
  · isplitr; · iexact HR
    isplitl [Hs1]; · iexact Hs1
    isplitl [Hr1]; · iexact Hr1
    isplitl [Hk1]; · iexact Hk1
    isplitl [Ha1]; · iexact Ha1
    isplitl [HO]; · iexact HO
    ipureintro; exact (sendOf1 _ _).trans (sent_eq m c (experts_eq m c)
      (first0 (devWord c) _ _ _ _) (first1 (devWord c) _ _ _ _) (first2 (devWord c) _ _ _ _) (first3 (devWord c) _ _ _ _)
      (router_load m c) (tokens_load _ _ _ _ (k0_off1_eq c 0)) (first_load _ _ _ _ (k0_off2_eq c 0)) (second_load _ _ _ _ (k0_off3_eq c 0))
      (k0_off4_eq c 0) (k0_off5_eq c 0) (k0_off6_eq c 0) (k0_off7_eq c 0) (k0_off8_eq c 0 1))
  iintro ⟨Hq1, HO⟩
  sl_exec
  iapply (wp_send_stored m K c ⟨2, by decide⟩ 9 rfl _ (dev6 c) _ _ rfl rfl s2 _) $$ [Hs2 Hr2 Hk2 Ha2 HO]
  · isplitr; · iexact HR
    isplitl [Hs2]; · iexact Hs2
    isplitl [Hr2]; · iexact Hr2
    isplitl [Hk2]; · iexact Hk2
    isplitl [Ha2]; · iexact Ha2
    isplitl [HO]; · iexact HO
    ipureintro; exact (sendOf2 _ _).trans (sent_eq m c (experts_eq m c)
      (first0 (devWord c) _ _ _ _) (first1 (devWord c) _ _ _ _) (first2 (devWord c) _ _ _ _) (first3 (devWord c) _ _ _ _)
      (router_load m c) (tokens_load _ _ _ _ (k0_off1_eq c 0)) (first_load _ _ _ _ (k0_off2_eq c 0)) (second_load _ _ _ _ (k0_off3_eq c 0))
      (k0_off4_eq c 0) (k0_off5_eq c 0) (k0_off6_eq c 0) (k0_off7_eq c 0) (k0_off8_eq c 0 2))
  iintro ⟨Hq2, HO⟩
  sl_exec
  iapply (wp_send_stored m K c ⟨3, by decide⟩ 8 rfl _ (dev7 c) _ _ rfl rfl s3 _) $$ [Hs3 Hr3 Hk3 Ha3 HO]
  · isplitr; · iexact HR
    isplitl [Hs3]; · iexact Hs3
    isplitl [Hr3]; · iexact Hr3
    isplitl [Hk3]; · iexact Hk3
    isplitl [Ha3]; · iexact Ha3
    isplitl [HO]; · iexact HO
    ipureintro; exact (sendOf3 _ _).trans (sent_eq m c (experts_eq m c)
      (first0 (devWord c) _ _ _ _) (first1 (devWord c) _ _ _ _) (first2 (devWord c) _ _ _ _) (first3 (devWord c) _ _ _ _)
      (router_load m c) (tokens_load _ _ _ _ (k0_off1_eq c 0)) (first_load _ _ _ _ (k0_off2_eq c 0)) (second_load _ _ _ _ (k0_off3_eq c 0))
      (k0_off4_eq c 0) (k0_off5_eq c 0) (k0_off6_eq c 0) (k0_off7_eq c 0) (k0_off8_eq c 0 3))
  iintro ⟨Hq3, HO⟩
  sl_exec
  iapply (wp_send_stored m K c ⟨4, by decide⟩ 7 rfl _ (dev8 c) _ _ rfl rfl s4 _) $$ [Hs4 Hr4 Hk4 Ha4 HO]
  · isplitr; · iexact HR
    isplitl [Hs4]; · iexact Hs4
    isplitl [Hr4]; · iexact Hr4
    isplitl [Hk4]; · iexact Hk4
    isplitl [Ha4]; · iexact Ha4
    isplitl [HO]; · iexact HO
    ipureintro; exact (sendOf4 _ _).trans (sent_eq m c (experts_eq m c)
      (second0 (devWord c) _ _ _ _) (second1 (devWord c) _ _ _ _) (second2 (devWord c) _ _ _ _) (second3 (devWord c) _ _ _ _)
      (router_load m c) (tokens_load _ _ _ _ (k0_off1_eq c 1)) (first_load _ _ _ _ (k0_off2_eq c 1)) (second_load _ _ _ _ (k0_off3_eq c 1))
      (k0_off4_eq c 1) (k0_off5_eq c 1) (k0_off6_eq c 1) (k0_off7_eq c 1) (k0_off8_eq c 1 0))
  iintro ⟨Hq4, HO⟩
  sl_exec
  iapply (wp_send_stored m K c ⟨5, by decide⟩ 6 rfl _ (dev9 c) _ _ rfl rfl s5 _) $$ [Hs5 Hr5 Hk5 Ha5 HO]
  · isplitr; · iexact HR
    isplitl [Hs5]; · iexact Hs5
    isplitl [Hr5]; · iexact Hr5
    isplitl [Hk5]; · iexact Hk5
    isplitl [Ha5]; · iexact Ha5
    isplitl [HO]; · iexact HO
    ipureintro; exact (sendOf5 _ _).trans (sent_eq m c (experts_eq m c)
      (second0 (devWord c) _ _ _ _) (second1 (devWord c) _ _ _ _) (second2 (devWord c) _ _ _ _) (second3 (devWord c) _ _ _ _)
      (router_load m c) (tokens_load _ _ _ _ (k0_off1_eq c 1)) (first_load _ _ _ _ (k0_off2_eq c 1)) (second_load _ _ _ _ (k0_off3_eq c 1))
      (k0_off4_eq c 1) (k0_off5_eq c 1) (k0_off6_eq c 1) (k0_off7_eq c 1) (k0_off8_eq c 1 1))
  iintro ⟨Hq5, HO⟩
  sl_exec
  iapply (wp_send_stored m K c ⟨6, by decide⟩ 5 rfl _ (dev10 c) _ _ rfl rfl s6 _) $$ [Hs6 Hr6 Hk6 Ha6 HO]
  · isplitr; · iexact HR
    isplitl [Hs6]; · iexact Hs6
    isplitl [Hr6]; · iexact Hr6
    isplitl [Hk6]; · iexact Hk6
    isplitl [Ha6]; · iexact Ha6
    isplitl [HO]; · iexact HO
    ipureintro; exact (sendOf6 _ _).trans (sent_eq m c (experts_eq m c)
      (second0 (devWord c) _ _ _ _) (second1 (devWord c) _ _ _ _) (second2 (devWord c) _ _ _ _) (second3 (devWord c) _ _ _ _)
      (router_load m c) (tokens_load _ _ _ _ (k0_off1_eq c 1)) (first_load _ _ _ _ (k0_off2_eq c 1)) (second_load _ _ _ _ (k0_off3_eq c 1))
      (k0_off4_eq c 1) (k0_off5_eq c 1) (k0_off6_eq c 1) (k0_off7_eq c 1) (k0_off8_eq c 1 2))
  iintro ⟨Hq6, HO⟩
  sl_exec
  iapply (wp_send_stored m K c ⟨7, by decide⟩ 4 rfl _ (dev11 c) _ _ rfl rfl s7 _) $$ [Hs7 Hr7 Hk7 Ha7 HO]
  · isplitr; · iexact HR
    isplitl [Hs7]; · iexact Hs7
    isplitl [Hr7]; · iexact Hr7
    isplitl [Hk7]; · iexact Hk7
    isplitl [Ha7]; · iexact Ha7
    isplitl [HO]; · iexact HO
    ipureintro; exact (sendOf7 _ _).trans (sent_eq m c (experts_eq m c)
      (second0 (devWord c) _ _ _ _) (second1 (devWord c) _ _ _ _) (second2 (devWord c) _ _ _ _) (second3 (devWord c) _ _ _ _)
      (router_load m c) (tokens_load _ _ _ _ (k0_off1_eq c 1)) (first_load _ _ _ _ (k0_off2_eq c 1)) (second_load _ _ _ _ (k0_off3_eq c 1))
      (k0_off4_eq c 1) (k0_off5_eq c 1) (k0_off6_eq c 1) (k0_off7_eq c 1) (k0_off8_eq c 1 3))
  iintro ⟨Hq7, HO⟩
  sl_exec
  iapply (wp_send_stored m K c ⟨8, by decide⟩ 3 rfl _ (dev12 c) _ _ rfl rfl s8 _) $$ [Hs8 Hr8 Hk8 Ha8 HO]
  · isplitr; · iexact HR
    isplitl [Hs8]; · iexact Hs8
    isplitl [Hr8]; · iexact Hr8
    isplitl [Hk8]; · iexact Hk8
    isplitl [Ha8]; · iexact Ha8
    isplitl [HO]; · iexact HO
    ipureintro; exact (sendOf8 _ _).trans (sent_eq m c (experts_eq m c)
      (third0 (devWord c) _ _ _ _) (third1 (devWord c) _ _ _ _) (third2 (devWord c) _ _ _ _) (third3 (devWord c) _ _ _ _)
      (router_load m c) (tokens_load _ _ _ _ (k0_off1_eq c 2)) (first_load _ _ _ _ (k0_off2_eq c 2)) (second_load _ _ _ _ (k0_off3_eq c 2))
      (k0_off4_eq c 2) (k0_off5_eq c 2) (k0_off6_eq c 2) (k0_off7_eq c 2) (k0_off8_eq c 2 0))
  iintro ⟨Hq8, HO⟩
  sl_exec
  iapply (wp_send_stored m K c ⟨9, by decide⟩ 2 rfl _ (dev13 c) _ _ rfl rfl s9 _) $$ [Hs9 Hr9 Hk9 Ha9 HO]
  · isplitr; · iexact HR
    isplitl [Hs9]; · iexact Hs9
    isplitl [Hr9]; · iexact Hr9
    isplitl [Hk9]; · iexact Hk9
    isplitl [Ha9]; · iexact Ha9
    isplitl [HO]; · iexact HO
    ipureintro; exact (sendOf9 _ _).trans (sent_eq m c (experts_eq m c)
      (third0 (devWord c) _ _ _ _) (third1 (devWord c) _ _ _ _) (third2 (devWord c) _ _ _ _) (third3 (devWord c) _ _ _ _)
      (router_load m c) (tokens_load _ _ _ _ (k0_off1_eq c 2)) (first_load _ _ _ _ (k0_off2_eq c 2)) (second_load _ _ _ _ (k0_off3_eq c 2))
      (k0_off4_eq c 2) (k0_off5_eq c 2) (k0_off6_eq c 2) (k0_off7_eq c 2) (k0_off8_eq c 2 1))
  iintro ⟨Hq9, HO⟩
  sl_exec
  iapply (wp_send_stored m K c ⟨10, by decide⟩ 1 rfl _ (dev14 c) _ _ rfl rfl s10 _) $$ [Hs10 Hr10 Hk10 Ha10 HO]
  · isplitr; · iexact HR
    isplitl [Hs10]; · iexact Hs10
    isplitl [Hr10]; · iexact Hr10
    isplitl [Hk10]; · iexact Hk10
    isplitl [Ha10]; · iexact Ha10
    isplitl [HO]; · iexact HO
    ipureintro; exact (sendOf10 _ _).trans (sent_eq m c (experts_eq m c)
      (third0 (devWord c) _ _ _ _) (third1 (devWord c) _ _ _ _) (third2 (devWord c) _ _ _ _) (third3 (devWord c) _ _ _ _)
      (router_load m c) (tokens_load _ _ _ _ (k0_off1_eq c 2)) (first_load _ _ _ _ (k0_off2_eq c 2)) (second_load _ _ _ _ (k0_off3_eq c 2))
      (k0_off4_eq c 2) (k0_off5_eq c 2) (k0_off6_eq c 2) (k0_off7_eq c 2) (k0_off8_eq c 2 2))
  iintro ⟨Hq10, HO⟩
  sl_exec
  iapply (wp_send_stored m K c ⟨11, by decide⟩ 0 rfl _ (dev15 c) _ _ rfl rfl s11 _) $$ [Hs11 Hr11 Hk11 Ha11 HO]
  · isplitr; · iexact HR
    isplitl [Hs11]; · iexact Hs11
    isplitl [Hr11]; · iexact Hr11
    isplitl [Hk11]; · iexact Hk11
    isplitl [Ha11]; · iexact Ha11
    isplitl [HO]; · iexact HO
    ipureintro; exact (sendOf11 _ _).trans (sent_eq m c (experts_eq m c)
      (third0 (devWord c) _ _ _ _) (third1 (devWord c) _ _ _ _) (third2 (devWord c) _ _ _ _) (third3 (devWord c) _ _ _ _)
      (router_load m c) (tokens_load _ _ _ _ (k0_off1_eq c 2)) (first_load _ _ _ _ (k0_off2_eq c 2)) (second_load _ _ _ _ (k0_off3_eq c 2))
      (k0_off4_eq c 2) (k0_off5_eq c 2) (k0_off6_eq c 2) (k0_off7_eq c 2) (k0_off8_eq c 2 3))
  iintro ⟨Hq11, HO⟩
  sl_exec
  ihave HO := (Entails.of_eq (show Owing (F := F) c (owedS c 0) = Owing c 0 from rfl)) $$ HO
  iapply (wp_recv_slot m K c ⟨0, by decide⟩ _ rfl) $$ [Hv0 HO]
  · isplitr; · iexact HR
    isplitl [Hv0]; · iexact Hv0
    iexact HO
  unfold recvFull recvPts
  iintro ⟨⟨%r0, Hr0, %hr0⟩, Hy0, HO⟩
  sl_exec
  iapply (wp_recv_slot m K c ⟨1, by decide⟩ _ rfl) $$ [Hv1 HO]
  · isplitr; · iexact HR
    isplitl [Hv1]; · iexact Hv1
    iexact HO
  unfold recvFull recvPts
  iintro ⟨⟨%r1, Hr1, %hr1⟩, Hy1, HO⟩
  sl_exec
  iapply (wp_recv_slot m K c ⟨2, by decide⟩ _ rfl) $$ [Hv2 HO]
  · isplitr; · iexact HR
    isplitl [Hv2]; · iexact Hv2
    iexact HO
  unfold recvFull recvPts
  iintro ⟨⟨%r2, Hr2, %hr2⟩, Hy2, HO⟩
  sl_exec
  iapply (wp_recv_slot m K c ⟨3, by decide⟩ _ rfl) $$ [Hv3 HO]
  · isplitr; · iexact HR
    isplitl [Hv3]; · iexact Hv3
    iexact HO
  unfold recvFull recvPts
  iintro ⟨⟨%r3, Hr3, %hr3⟩, Hy3, HO⟩
  sl_exec
  iapply (wp_recv_slot m K c ⟨4, by decide⟩ _ rfl) $$ [Hv4 HO]
  · isplitr; · iexact HR
    isplitl [Hv4]; · iexact Hv4
    iexact HO
  unfold recvFull recvPts
  iintro ⟨⟨%r4, Hr4, %hr4⟩, Hy4, HO⟩
  sl_exec
  iapply (wp_recv_slot m K c ⟨5, by decide⟩ _ rfl) $$ [Hv5 HO]
  · isplitr; · iexact HR
    isplitl [Hv5]; · iexact Hv5
    iexact HO
  unfold recvFull recvPts
  iintro ⟨⟨%r5, Hr5, %hr5⟩, Hy5, HO⟩
  sl_exec
  iapply (wp_recv_slot m K c ⟨6, by decide⟩ _ rfl) $$ [Hv6 HO]
  · isplitr; · iexact HR
    isplitl [Hv6]; · iexact Hv6
    iexact HO
  unfold recvFull recvPts
  iintro ⟨⟨%r6, Hr6, %hr6⟩, Hy6, HO⟩
  sl_exec
  iapply (wp_recv_slot m K c ⟨7, by decide⟩ _ rfl) $$ [Hv7 HO]
  · isplitr; · iexact HR
    isplitl [Hv7]; · iexact Hv7
    iexact HO
  unfold recvFull recvPts
  iintro ⟨⟨%r7, Hr7, %hr7⟩, Hy7, HO⟩
  sl_exec
  iapply (wp_recv_slot m K c ⟨8, by decide⟩ _ rfl) $$ [Hv8 HO]
  · isplitr; · iexact HR
    isplitl [Hv8]; · iexact Hv8
    iexact HO
  unfold recvFull recvPts
  iintro ⟨⟨%r8, Hr8, %hr8⟩, Hy8, HO⟩
  sl_exec
  iapply (wp_recv_slot m K c ⟨9, by decide⟩ _ rfl) $$ [Hv9 HO]
  · isplitr; · iexact HR
    isplitl [Hv9]; · iexact Hv9
    iexact HO
  unfold recvFull recvPts
  iintro ⟨⟨%r9, Hr9, %hr9⟩, Hy9, HO⟩
  sl_exec
  iapply (wp_recv_slot m K c ⟨10, by decide⟩ _ rfl) $$ [Hv10 HO]
  · isplitr; · iexact HR
    isplitl [Hv10]; · iexact Hv10
    iexact HO
  unfold recvFull recvPts
  iintro ⟨⟨%r10, Hr10, %hr10⟩, Hy10, HO⟩
  sl_exec
  iapply (wp_recv_slot m K c ⟨11, by decide⟩ _ rfl) $$ [Hv11 HO]
  · isplitr; · iexact HR
    isplitl [Hv11]; · iexact Hv11
    iexact HO
  unfold recvFull recvPts
  iintro ⟨⟨%r11, Hr11, %hr11⟩, Hy11, HO⟩
  sl_exec
  iapply (wp_out_slot m K c ⟨0, by decide⟩ _ rfl) $$ [Hq0 HO]
  · isplitr; · iexact HR
    isplitl [Hq0]; · iexact Hq0
    iexact HO
  iintro ⟨Hs0, Hz0, HO⟩
  first | sl_exec | skip
  iapply (wp_out_slot m K c ⟨1, by decide⟩ _ rfl) $$ [Hq1 HO]
  · isplitr; · iexact HR
    isplitl [Hq1]; · iexact Hq1
    iexact HO
  iintro ⟨Hs1, Hz1, HO⟩
  first | sl_exec | skip
  iapply (wp_out_slot m K c ⟨2, by decide⟩ _ rfl) $$ [Hq2 HO]
  · isplitr; · iexact HR
    isplitl [Hq2]; · iexact Hq2
    iexact HO
  iintro ⟨Hs2, Hz2, HO⟩
  first | sl_exec | skip
  iapply (wp_out_slot m K c ⟨3, by decide⟩ _ rfl) $$ [Hq3 HO]
  · isplitr; · iexact HR
    isplitl [Hq3]; · iexact Hq3
    iexact HO
  iintro ⟨Hs3, Hz3, HO⟩
  first | sl_exec | skip
  iapply (wp_out_slot m K c ⟨4, by decide⟩ _ rfl) $$ [Hq4 HO]
  · isplitr; · iexact HR
    isplitl [Hq4]; · iexact Hq4
    iexact HO
  iintro ⟨Hs4, Hz4, HO⟩
  first | sl_exec | skip
  iapply (wp_out_slot m K c ⟨5, by decide⟩ _ rfl) $$ [Hq5 HO]
  · isplitr; · iexact HR
    isplitl [Hq5]; · iexact Hq5
    iexact HO
  iintro ⟨Hs5, Hz5, HO⟩
  first | sl_exec | skip
  iapply (wp_out_slot m K c ⟨6, by decide⟩ _ rfl) $$ [Hq6 HO]
  · isplitr; · iexact HR
    isplitl [Hq6]; · iexact Hq6
    iexact HO
  iintro ⟨Hs6, Hz6, HO⟩
  first | sl_exec | skip
  iapply (wp_out_slot m K c ⟨7, by decide⟩ _ rfl) $$ [Hq7 HO]
  · isplitr; · iexact HR
    isplitl [Hq7]; · iexact Hq7
    iexact HO
  iintro ⟨Hs7, Hz7, HO⟩
  first | sl_exec | skip
  iapply (wp_out_slot m K c ⟨8, by decide⟩ _ rfl) $$ [Hq8 HO]
  · isplitr; · iexact HR
    isplitl [Hq8]; · iexact Hq8
    iexact HO
  iintro ⟨Hs8, Hz8, HO⟩
  first | sl_exec | skip
  iapply (wp_out_slot m K c ⟨9, by decide⟩ _ rfl) $$ [Hq9 HO]
  · isplitr; · iexact HR
    isplitl [Hq9]; · iexact Hq9
    iexact HO
  iintro ⟨Hs9, Hz9, HO⟩
  first | sl_exec | skip
  iapply (wp_out_slot m K c ⟨10, by decide⟩ _ rfl) $$ [Hq10 HO]
  · isplitr; · iexact HR
    isplitl [Hq10]; · iexact Hq10
    iexact HO
  iintro ⟨Hs10, Hz10, HO⟩
  first | sl_exec | skip
  iapply (wp_out_slot m K c ⟨11, by decide⟩ _ rfl) $$ [Hq11 HO]
  · isplitr; · iexact HR
    isplitl [Hq11]; · iexact Hq11
    iexact HO
  iintro ⟨Hs11, Hz11, HO⟩
  first | sl_exec | skip
  simp only [Prog.bind, Prog.pure_eq_ret]
  sl_step
  iapply Hk
  unfold bodyOut chain recvAny recvPts
  isplitr [Hx Hrw Hix Hew Hout]
  · isplitl [HO]; · iexact HO
    isplitl [HzB]; · iexact HzB
    isplitl [Hz0 Hz1 Hz2 Hz3 Hz4 Hz5 Hz6 Hz7 Hz8 Hz9 Hz10 Hz11]
    · isplitl [Hz0]; · iexact Hz0
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      iexact Hz11
    isplitl [Hy0 Hy1 Hy2 Hy3 Hy4 Hy5 Hy6 Hy7 Hy8 Hy9 Hy10 Hy11]
    · isplitl [Hy0]; · iexact Hy0
      isplitl [Hy1]; · iexact Hy1
      isplitl [Hy2]; · iexact Hy2
      isplitl [Hy3]; · iexact Hy3
      isplitl [Hy4]; · iexact Hy4
      isplitl [Hy5]; · iexact Hy5
      isplitl [Hy6]; · iexact Hy6
      isplitl [Hy7]; · iexact Hy7
      isplitl [Hy8]; · iexact Hy8
      isplitl [Hy9]; · iexact Hy9
      isplitl [Hy10]; · iexact Hy10
      iexact Hy11
    isplitl [Hs0 Hs1 Hs2 Hs3 Hs4 Hs5 Hs6 Hs7 Hs8 Hs9 Hs10 Hs11]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      iexact Hs11
    isplitl [Hr0 Hr1 Hr2 Hr3 Hr4 Hr5 Hr6 Hr7 Hr8 Hr9 Hr10 Hr11]
    · isplitl [Hr0]; · iexists r0; iexact Hr0
      isplitl [Hr1]; · iexists r1; iexact Hr1
      isplitl [Hr2]; · iexists r2; iexact Hr2
      isplitl [Hr3]; · iexists r3; iexact Hr3
      isplitl [Hr4]; · iexists r4; iexact Hr4
      isplitl [Hr5]; · iexists r5; iexact Hr5
      isplitl [Hr6]; · iexists r6; iexact Hr6
      isplitl [Hr7]; · iexists r7; iexact Hr7
      isplitl [Hr8]; · iexists r8; iexact Hr8
      isplitl [Hr9]; · iexists r9; iexact Hr9
      isplitl [Hr10]; · iexists r10; iexact Hr10
      iexists r11; iexact Hr11
    isplitl [Hg]; · iexists _; iexact Hg
    iexists _; iexact Hw
  isplitl [Hx]; · iexact Hx
  isplitl [Hrw]; · iexact Hrw
  isplitl [Hix]; · iexact Hix
  isplitl [Hew]; · iexact Hew
  iapply (contents_eq c cc0_stg4_0 _ (outAt m c))
  isplitl [Hout]; · iexact Hout
  ipureintro
  exact out_eq fo
    ((addRows8 _ _).trans (add_of (row_hit (h := 0) (x := 3) (y := 2) (z := 1) rfl rfl rfl rfl rfl (by decide))))
    ((addRows9 _ _).trans (add_of (row_hit (h := 1) (x := 0) (y := 3) (z := 2) rfl rfl rfl rfl rfl (by decide))))
    ((addRows10 _ _).trans (add_of (row_hit (h := 2) (x := 1) (y := 0) (z := 3) rfl rfl rfl rfl rfl (by decide))))
    ((addRows11 _ _).trans (add_of (row_hit (h := 3) (x := 2) (y := 1) (z := 0) rfl rfl rfl rfl rfl (by decide))))
    ((addRows4 _ _).trans (add_of (row_hit (h := 0) (x := 3) (y := 2) (z := 1) rfl rfl rfl rfl rfl (by decide))))
    ((addRows5 _ _).trans (add_of (row_hit (h := 1) (x := 0) (y := 3) (z := 2) rfl rfl rfl rfl rfl (by decide))))
    ((addRows6 _ _).trans (add_of (row_hit (h := 2) (x := 1) (y := 0) (z := 3) rfl rfl rfl rfl rfl (by decide))))
    ((addRows7 _ _).trans (add_of (row_hit (h := 3) (x := 2) (y := 1) (z := 0) rfl rfl rfl rfl rfl (by decide))))
    ((addRows0 _ _).trans (add_of ((row_base 0 rfl).trans (congrArg (rowsOf · 0) (own_eq m c (experts_eq m c) (own0 (devWord c) _ _ _ _) (own1 (devWord c) _ _ _ _) (own2 (devWord c) _ _ _ _) (own3 (devWord c) _ _ _ _) (router_load m c) (tokens_load _ _ _ _ (k0_off9_eq c)) (first_load _ _ _ _ (k0_off10_eq c)) (second_load _ _ _ _ (k0_off11_eq c)) (k0_off12_eq c) (k0_off13_eq c) (k0_off14_eq c) (k0_off15_eq c) (k0_off16_eq c))))))
    ((addRows1 _ _).trans (add_of ((row_miss (h := 1) (x := 0) rfl rfl (by decide) (row_base 1 rfl)).trans (congrArg (rowsOf · 1) (own_eq m c (experts_eq m c) (own0 (devWord c) _ _ _ _) (own1 (devWord c) _ _ _ _) (own2 (devWord c) _ _ _ _) (own3 (devWord c) _ _ _ _) (router_load m c) (tokens_load _ _ _ _ (k0_off9_eq c)) (first_load _ _ _ _ (k0_off10_eq c)) (second_load _ _ _ _ (k0_off11_eq c)) (k0_off12_eq c) (k0_off13_eq c) (k0_off14_eq c) (k0_off15_eq c) (k0_off16_eq c))))))
    ((addRows2 _ _).trans (add_of ((row_miss (h := 2) (x := 1) rfl rfl (by decide) (row_miss (h := 2) (x := 0) rfl rfl (by decide) (row_base 2 rfl))).trans (congrArg (rowsOf · 2) (own_eq m c (experts_eq m c) (own0 (devWord c) _ _ _ _) (own1 (devWord c) _ _ _ _) (own2 (devWord c) _ _ _ _) (own3 (devWord c) _ _ _ _) (router_load m c) (tokens_load _ _ _ _ (k0_off9_eq c)) (first_load _ _ _ _ (k0_off10_eq c)) (second_load _ _ _ _ (k0_off11_eq c)) (k0_off12_eq c) (k0_off13_eq c) (k0_off14_eq c) (k0_off15_eq c) (k0_off16_eq c))))))
    ((addRows3 _ _).trans (add_of ((row_miss (h := 3) (x := 2) rfl rfl (by decide) (row_miss (h := 3) (x := 1) rfl rfl (by decide) (row_miss (h := 3) (x := 0) rfl rfl (by decide) (row_base 3 rfl)))).trans (congrArg (rowsOf · 3) (own_eq m c (experts_eq m c) (own0 (devWord c) _ _ _ _) (own1 (devWord c) _ _ _ _) (own2 (devWord c) _ _ _ _) (own3 (devWord c) _ _ _ _) (router_load m c) (tokens_load _ _ _ _ (k0_off9_eq c)) (first_load _ _ _ _ (k0_off10_eq c)) (second_load _ _ _ _ (k0_off11_eq c)) (k0_off12_eq c) (k0_off13_eq c) (k0_off14_eq c) (k0_off15_eq c) (k0_off16_eq c))))))

end Cert.KernelIdeal.Exchange

end
-- ==== Proof.Deal.lean ====
/-
What the launch deals each device: the cells' ghost state, the duty tokens passed to the devices that pay with them, the
credit the devices' debts give the barrier and receive cells.
-/
module

public import proofs.«01_k».proof.Proof.Body

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Products over the slots and over a device's cells -/

omit [FloatOps F] in
theorem chain_eq (Φ : Fin 12 → sProp 𝕄) : chain Φ = bigSep Finset.univ Φ := by
  rw [bigSep_univ_eq_bigSepL [0, 1, 2, 3, 4, 5, 6, 7, 8, 9, 10, 11] (by decide) (by decide) Φ]
  rfl

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The transfer semaphores are the send ones and the receive ones. -/
theorem bigSep_transfers (Φ : Fin 24 → sProp 𝕄) : bigSep Finset.univ Φ
    = iprop((bigSep Finset.univ fun s : Fin 12 => Φ ⟨s.val, by omega⟩) ∗ bigSep Finset.univ fun s : Fin 12 => Φ ⟨12 + s.val, by omega⟩) := by
  rw [bigSep_univ_equiv (finSumFinEquiv (m := 12) (n := 12)) Φ, bigSep_univ_sum]
  rfl

omit [FloatOps F] in
/-- A device's cells are its barrier, its send cells, its receive cells. -/
theorem bigSep_cells (Φ : Option (Fin 24) → sProp 𝕄) : bigSep Finset.univ Φ
    = iprop(Φ none ∗ (bigSep Finset.univ fun s : Fin 12 => Φ (sendK s)) ∗ bigSep Finset.univ fun s : Fin 12 => Φ (recvK s)) := by
  rw [bigSep_univ_equiv ((Equiv.sumComm Unit (Fin 24)).trans (Equiv.optionEquivSumPUnit (Fin 24)).symm) Φ, bigSep_univ_sum,
    bigSep_univ_eq_bigSepL [()] (by decide) (by decide) , bigSepL_singleton, bigSep_transfers]
  rfl

/-! ## Rotations -/

/-- `k` places on, `k = 1, 2, 3`. -/
def turn (k : Fin 3) : Dev nD ≃ Dev nD where
  toFun := rot (k.val + 1)
  invFun := rot (3 - k.val)
  left_inv c := by revert k c; decide
  right_inv c := by revert k c; decide

/-- A slot, at the device it goes to. -/
def ship : Dev nD × Fin 12 ≃ Dev nD × Fin 12 where
  toFun cs := (dst cs.1 cs.2, cs.2)
  invFun cs := (src cs.1 cs.2, cs.2)
  left_inv cs := Prod.ext (src_dst cs.1 cs.2) rfl
  right_inv cs := Prod.ext (dst_src cs.1 cs.2) rfl

theorem turn_apply (k : Fin 3) (c : Dev nD) : turn k c = rot (k.val + 1) c := rfl
theorem ship_apply (cs : Dev nD × Fin 12) : ship cs = (dst cs.1 cs.2, cs.2) := rfl

theorem turn_iff (c d : Dev nD) : (c = rot 1 d ↔ d = rot 3 c) ∧ (c = rot 2 d ↔ d = rot 2 c) ∧ (c = rot 3 d ↔ d = rot 1 c) := by
  revert c d; decide

/-! ## Cells and tokens -/

/-- The kernel's own semaphores. -/
def osem : Fin 24 → SemLoc sig := fun k => .dma ⟨5 + k.val, by have := k.isLt; show 5 + k.val < 29; omega⟩

theorem ownSemFacts : Pipeline.OwnSemFacts cfg0.spec osem := by decide

theorem osem_injective : Function.Injective osem := by decide

theorem kcell_injective : Function.Injective (kcell : Dev nD × Option (Fin 24) → GSem nD τ sig) := by
  rintro ⟨c, k⟩ ⟨c', k'⟩ h
  have h1 : c = c' := by
    have := congrArg (fun g : GSem nD τ sig => g.1.1) h
    cases k <;> cases k' <;> exact this
  subst h1
  have h2 := congrArg (fun g : GSem nD τ sig => g.2) h
  cases k with
  | none => cases k' with
    | none => rfl
    | some k' => exact absurd h2 (by intro h; cases h)
  | some k => cases k' with
    | none => exact absurd h2 (by intro h; cases h)
    | some k' => rw [osem_injective h2]
def exCells : Finset (GSem nD τ sig) := Finset.univ.map ⟨kcell, kcell_injective⟩

/-- A device's duties: its barrier's three, one on each transfer semaphore. -/
def tokOf (cj : Dev nD × (Fin 3 ⊕ Fin 24)) : GSem nD τ sig × ℕ × Fin 3 :=
  match cj.2 with
  | .inl g => (barCell cj.1, 0, g)
  | .inr k => (((cj.1 : Thread nD τ), osem k), 0, 0)

theorem tokOf_injective : Function.Injective tokOf := by
  rintro ⟨c, j⟩ ⟨c', j'⟩ h
  have h1 : c = c' := by
    have := congrArg (fun x : GSem nD τ sig × ℕ × Fin 3 => x.1.1.1) h
    cases j <;> cases j' <;> exact this
  subst h1
  have h2 := congrArg (fun x : GSem nD τ sig × ℕ × Fin 3 => x.1.2) h
  have h3 := congrArg (fun x : GSem nD τ sig × ℕ × Fin 3 => x.2.2) h
  cases j with
  | inl g => cases j' with
    | inl g' => rw [show g = g' from h3]
    | inr k' => exact absurd h2 (by intro h; cases h)
  | inr k => cases j' with
    | inl g' => exact absurd h2 (by intro h; cases h)
    | inr k' => rw [osem_injective h2]
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The tokens of device `c`'s own cells. -/
def toks (c : Dev nD) : sProp 𝕄 :=
  iprop((dutyTok ER (barCell c) 0 (0 : Fin 3) ∗ dutyTok ER (barCell c) 0 (1 : Fin 3) ∗ dutyTok ER (barCell c) 0 (2 : Fin 3))
    ∗ (bigSep Finset.univ fun s : Fin 12 => dutyTok ER (sendCell c s) 0 (0 : Fin 3))
    ∗ bigSep Finset.univ fun s : Fin 12 => dutyTok ER (recvCell c s) 0 (0 : Fin 3))

/-- The tokens device `c` pays with. -/
def payToks (c : Dev nD) : sProp 𝕄 :=
  iprop((dutyTok ER (barCell (rot 1 c)) 0 (2 : Fin 3) ∗ dutyTok ER (barCell (rot 2 c)) 0 (1 : Fin 3) ∗ dutyTok ER (barCell (rot 3 c)) 0 (0 : Fin 3))
    ∗ bigSep Finset.univ (sendToks (F := F) c))

/-- Where device `c` stands at its cells. -/
def places (c : Dev nD) : sProp 𝕄 :=
  iprop(atPos ER (barCell c) 0 (∅ : Finset (Fin 3)) 0 ∗ (bigSep Finset.univ fun s : Fin 12 => atPos ER (sendCell c s) 0 (∅ : Finset (Fin 3)) 0)
    ∗ bigSep Finset.univ fun s : Fin 12 => atPos ER (recvCell c s) 0 (∅ : Finset (Fin 3)) 0)

/-- What device `c` starts with of the protocol's state. -/
def ghost (K : Dev nD × Option (Fin 24) → ℕ) (c : Dev nD) : sProp 𝕄 := iprop(records m K ∗ places (F := F) c ∗ payToks (F := F) c)

def G (c : Dev nD) : sProp 𝕄 :=
  iprop((bigSep Finset.univ fun k : Option (Fin 24) => roundState ER (Rd m) (kcell (c, k)) 0)
    ∗ (bigSep Finset.univ fun k : Option (Fin 24) => iprop(atPos ER (kcell (c, k)) 0 (∅ : Finset (Fin 3)) 0 ∗ reached ER (kcell (c, k)) 0))
    ∗ toks (F := F) c)

def G' (c : Dev nD) : sProp 𝕄 := iprop(∃ K, ghost m K c)

omit [FloatOps F] in
theorem recv_cells (c : Dev nD) (Φ : GSem nD τ sig → sProp 𝕄) :
    (bigSep Finset.univ fun s : Fin 12 => Φ (kcell (c, recvK s))) = bigSep Finset.univ fun s : Fin 12 => Φ (recvCell c s) :=
  bigSep_congr fun s _ => by rw [kcell_recv]

omit [FloatOps F] in
/-- A product over a device's cells. -/
theorem over_cells (c : Dev nD) (Φ : GSem nD τ sig → sProp 𝕄) : (bigSep Finset.univ fun k : Option (Fin 24) => Φ (kcell (c, k)))
    = iprop(Φ (barCell c) ∗ (bigSep Finset.univ fun s : Fin 12 => Φ (sendCell c s)) ∗ bigSep Finset.univ fun s : Fin 12 => Φ (recvCell c s)) := by
  rw [bigSep_cells, recv_cells]
  rfl

omit [FloatOps F] in
theorem recv_osem (c : Dev nD) (s : Fin 12) : (((c : Thread nD τ), osem ⟨12 + s.val, by omega⟩) : GSem nD τ sig) = recvCell c s := kcell_recv c s

omit [FloatOps F] in
theorem toks_eq (c : Dev nD) : (bigSep Finset.univ fun j : Fin 3 ⊕ Fin 24 => dutyTok ER (tokOf (c, j)).1 (tokOf (c, j)).2.1 (tokOf (c, j)).2.2 : sProp 𝕄)
    = toks c := by
  rw [bigSep_univ_sum, bigSep_three, bigSep_transfers]
  unfold toks
  simp only [← recv_osem]
  rfl

theorem fund : BI.own (ER (initOf exCells exToks)) ⊢ (|==> bigSep Finset.univ (G m) : sProp 𝕄) := by
  have hX (Φ : GSem nD τ sig → sProp 𝕄) : bigSep exCells Φ
      = bigSep Finset.univ fun c : Dev nD => bigSep Finset.univ fun k : Option (Fin 24) => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => toks_eq c
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun s : Fin 12 => semVal (sendCell c s) 0) ∗ bigSep Finset.univ fun s : Fin 12 => semVal (recvCell c s) 0) := by
  unfold Pipeline.ownSems0
  rw [bigSep_transfers]
  simp only [← recv_osem]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 24) => semVal (kcell (c, k)) 0 : sProp 𝕄) := by
  rw [ownSems0_eq, unscopedSems0_eq, over_cells c fun g => semVal g 0]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 (∅ : Finset (Fin 3)) 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 24) => semVal (kcell (c, k)) 0)
        ∗ bigSep Finset.univ fun k : Option (Fin 24) => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- The barrier tokens go to the devices that signal, the receive tokens to the devices that send. -/
theorem toks_around : (bigSep Finset.univ fun c : Dev nD => (toks c : sProp 𝕄)) ⊢ bigSep Finset.univ fun c : Dev nD => payToks c := by
  have hr : (bigSep Finset.univ fun c : Dev nD => bigSep Finset.univ fun s : Fin 12 => (dutyTok ER (recvCell c s) 0 (0 : Fin 3) : sProp 𝕄))
      = bigSep Finset.univ fun c : Dev nD => bigSep Finset.univ fun s : Fin 12 => (dutyTok ER (recvCell (dst c s) s) 0 (0 : Fin 3) : sProp 𝕄) := by
    rw [← bigSep_univ_prod (fun cs : Dev nD × Fin 12 => (dutyTok ER (recvCell cs.1 cs.2) 0 (0 : Fin 3) : sProp 𝕄)),
      ← bigSep_univ_prod (fun cs : Dev nD × Fin 12 => (dutyTok ER (recvCell (dst cs.1 cs.2) cs.2) 0 (0 : Fin 3) : sProp 𝕄)),
      bigSep_univ_equiv ship (fun cs : Dev nD × Fin 12 => (dutyTok ER (recvCell cs.1 cs.2) 0 (0 : Fin 3) : sProp 𝕄))]
    exact bigSep_congr fun cs _ => by rw [ship_apply]
  have hb (k d : Fin 3) : (bigSep Finset.univ fun c : Dev nD => (dutyTok ER (barCell c) 0 d : sProp 𝕄))
      = bigSep Finset.univ fun c : Dev nD => (dutyTok ER (barCell (rot (k.val + 1) c)) 0 d : sProp 𝕄) := by
    rw [bigSep_univ_equiv (turn k) (fun c : Dev nD => (dutyTok ER (barCell c) 0 d : sProp 𝕄))]
    exact bigSep_congr fun c _ => by rw [turn_apply]
  unfold toks payToks sendToks
  simp only [bigSep_sep']
  rw [hr, hb 2 0, hb 1 1, hb 0 2]
  iintro ⟨⟨H1, H2, H3⟩, H4, H5⟩
  isplitl [H1 H2 H3]
  · isplitl [H3]; · iexact H3
    isplitl [H2]; · iexact H2
    iexact H1
  isplitl [H4]; · iexact H4
  iexact H5

theorem with_records {K : Dev nD × Option (Fin 24) → ℕ} {Φ : Dev nD → sProp 𝕄} (h : ∀ c, iprop(records m K ∗ Φ c) ⊢ G' m c) :
    iprop(records m K ∗ bigSep Finset.univ Φ) ⊢ bigSep Finset.univ (G' m) :=
  (sep_mono_left (BI.bigSep_of_persistent Finset.univ (records m K))).trans (by rw [← bigSep_sep']; exact bigSep_mono fun c _ => h c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 (∅ : Finset (Fin 3)) 0 ∗ reached ER (kcell (c, k)) 0)) ∗ toks (F := F) c) : sProp 𝕄)
      ⊢ bigSep Finset.univ (G' m) := by
  rw [bigSep_sep', bigSep_sep', ← bigSep_univ_prod (fun ck : Dev nD × Option (Fin 24) => iprop(∃ κ : ℕ, cellInv ER (Rd m) κ (kcell ck))),
    bigSep_congr (s := Finset.univ) (fun (c : Dev nD) _ => bigSep_sep' Finset.univ
      (fun k : Option (Fin 24) => (atPos ER (kcell (c, k)) 0 (∅ : Finset (Fin 3)) 0 : sProp 𝕄)) (fun k => reached ER (kcell (c, k)) 0)),
    bigSep_sep', ← bigSep_univ_prod (fun ck : Dev nD × Option (Fin 24) => (reached ER (kcell ck) 0 : sProp 𝕄))]
  iintro ⟨HI, ⟨Hat, #HR⟩, Htok⟩
  ihave HK := (BI.bigSep_exists_pi Finset.univ (fun (ck : Dev nD × Option (Fin 24)) (κ : ℕ) => (cellInv ER (Rd m) κ (kcell ck) : sProp 𝕄))) $$ HI
  icases HK with ⟨%K, #HI⟩
  ihave Htk := (toks_around (F := F)) $$ Htok
  iapply (with_records m (K := K) (Φ := fun c => iprop(places (F := F) c ∗ payToks (F := F) c)) fun c => by
    unfold G' ghost
    iintro H
    iexists K
    iexact H)
  isplitr
  · unfold records; isplitl; · iexact HI
    iexact HR
  · rw [bigSep_sep']
    isplitl [Hat]
    · ihave H := (Entails.of_eq (bigSep_congr (s := Finset.univ)
        fun (c : Dev nD) _ => over_cells c fun g => (atPos ER g 0 (∅ : Finset (Fin 3)) 0 : sProp 𝕄))) $$ Hat
      iexact H
    iexact Htk

theorem glob : (bigSep Finset.univ fun c => iprop(Pipeline.ownSems0 (Ix := Unit) (Name := ℕ) (U := UU) (Lvl := ℕ) (Val := Elt F) (τ := τ) osem c
      ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {s t : Fin 12} : Iff (recvCell a s = recvCell b t) (a = b ∧ s = t) := by
  constructor
  · intro h
    refine ⟨Fin.ext (congrArg (fun g : GSem nD τ sig => g.1.1.val) h), Fin.ext ?_⟩
    have h2 : SemLoc.dma (recvQ s) = SemLoc.dma (recvQ t) := congrArg (fun g : GSem nD τ sig => g.2) h
    injection h2 with h3
    have h4 : 17 + s.val = 17 + t.val := congrArg Fin.val h3
    omega
  · rintro ⟨rfl, rfl⟩; rfl
theorem recv_ne_bar {a b : Dev nD} {s : Fin 12} : recvCell a s ≠ barCell b := fun h => by
  have h2 := congrArg (fun g : GSem nD τ sig => g.2) h
  cases h2

theorem owedS_bar (d c : Dev nD) (n : ℕ) : owedS d n (barCell c) () = 0 := by
  induction n with
  | zero => rfl
  | succ n ih =>
    unfold owedS
    rw [Pi.add_apply, Finsupp.add_apply, ih, tallyAt_ne_cell (fun h => recv_ne_bar h.symm)]; rfl

theorem owedS_recv (d c : Dev nD) (s : Fin 12) (n : ℕ) (hn : n ≤ 12) :
    owedS d n (recvCell c s) () = if 11 - s.val < n ∧ d = src c s then N else 0 := by
  induction n with
  | zero => rw [if_neg (fun h => absurd h.1 (Nat.not_lt_zero _))]; rfl
  | succ n ih =>
    unfold owedS
    rw [Pi.add_apply, Finsupp.add_apply, ih (by omega), tallyAt_apply]
    have hs := s.isLt
    by_cases h : recvCell c s = recvCell (dst d (slotAt n)) (slotAt n)
    · obtain ⟨h1, h2⟩ := recv_eq_iff.mp h
      have h3 : s.val = 11 - n := congrArg Fin.val h2
      have h4 : d = src c s := by rw [h1, ← h2, src_dst]
      rw [if_neg (fun h' => by omega), if_pos ⟨h, rfl⟩, if_pos ⟨by omega, h4⟩, Nat.zero_add]
    · rw [if_neg (fun h' : recvCell c s = recvCell (dst d (slotAt n)) (slotAt n) ∧ () = () => h h'.1), Nat.add_zero]
      refine if_congr ?_ rfl rfl
      constructor
      · exact fun h' => ⟨by omega, h'.2⟩
      · rintro ⟨h1, h2⟩
        refine ⟨?_, h2⟩
        by_contra h3
        have h4 : s = slotAt n := Fin.ext (by show s.val = 11 - n; omega)
        exact h (recv_eq_iff.mpr ⟨by rw [h2, ← h4, dst_src], h4⟩)

theorem owed_bar (d c : Dev nD) :
    O₀ d (barCell c) () = ((if d = rot 1 c then 1 else 0) + (if d = rot 2 c then 1 else 0)) + (if d = rot 3 c then 1 else 0) := by
  unfold O₀ O₂ O₁
  rw [Pi.add_apply, Finsupp.add_apply, Pi.add_apply, Finsupp.add_apply, Pi.add_apply, Finsupp.add_apply, owedS_bar, tallyAt_apply,
    tallyAt_apply, tallyAt_apply, Nat.zero_add]
  obtain ⟨h1, h2, h3⟩ := turn_iff c d
  congr 1
  · congr 1
    · exact if_congr ⟨fun h => h3.mp (bar_eq_iff.mp h.1), fun h => ⟨bar_eq_iff.mpr (h3.mpr h), rfl⟩⟩ rfl rfl
    · exact if_congr ⟨fun h => h2.mp (bar_eq_iff.mp h.1), fun h => ⟨bar_eq_iff.mpr (h2.mpr h), rfl⟩⟩ rfl rfl
  · exact if_congr ⟨fun h => h1.mp (bar_eq_iff.mp h.1), fun h => ⟨bar_eq_iff.mpr (h1.mpr h), rfl⟩⟩ rfl rfl

theorem owed_recv (d c : Dev nD) (s : Fin 12) : O₀ d (recvCell c s) () = if d = src c s then N else 0 := by
  unfold O₀ O₂ O₁
  rw [Pi.add_apply, Finsupp.add_apply, Pi.add_apply, Finsupp.add_apply, Pi.add_apply, Finsupp.add_apply, owedS_recv d c s 12 le_rfl,
    tallyAt_ne_cell recv_ne_bar, tallyAt_ne_cell recv_ne_bar, tallyAt_ne_cell recv_ne_bar]
  simp only [Finsupp.zero_apply, Nat.add_zero]
  exact if_congr ⟨fun h => h.2, fun h => ⟨by omega, h⟩⟩ rfl rfl

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (rot 1 c) fun _ => 1, Finset.sum_ite_eq' Finset.univ (rot 2 c) fun _ => 1,
    Finset.sum_ite_eq' Finset.univ (rot 3 c) fun _ => 1, if_pos (Finset.mem_univ _), if_pos (Finset.mem_univ _), if_pos (Finset.mem_univ _)]

theorem launch_recv (c : Dev nD) (s : Fin 12) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (src c s) fun _ => N, if_pos (Finset.mem_univ _)]

theorem recvLoc_injective : Function.Injective (fun s : Fin 12 => (SemLoc.dma (recvQ s) : SemLoc sig)) := by decide

omit [FloatOps F] in
theorem creds (c : Dev nD) :
    (Pipeline.launchCred O₀ c : sProp 𝕄)
      ⊢ iprop(cred (tallyAt (barCell c) () 3) ∗ bigSep Finset.univ fun s : Fin 12 => cred (tallyAt (recvCell c s) () N)) := by
  unfold Pipeline.launchCred
  rw [bigSep_univ_at _ (SemLoc.reg barS), launch_bar]
  refine sep_mono_right ?_
  refine (bigSep_subset (s := Finset.univ.erase (SemLoc.reg barS)) (t := Finset.univ.map ⟨_, recvLoc_injective⟩) ?_).trans ?_
  · intro sm h
    obtain ⟨s, -, rfl⟩ := Finset.mem_map.mp h
    have hne : (SemLoc.dma (recvQ s) : SemLoc sig) ≠ SemLoc.reg barS := by intro h; cases h
    exact Finset.mem_erase.mpr ⟨hne, Finset.mem_univ _⟩
  · rw [bigSep_map]
    exact bigSep_mono fun s _ => Entails.of_eq (congrArg (fun t => (cred t : sProp 𝕄)) (launch_recv c s))

end Cert.KernelIdeal.Exchange

end
-- ==== Proof.Mesh.lean ====
/-
The run on the mesh: a device's scratch buffers cut in slots, the body obligation, the launch.
-/
module

public import proofs.«01_k».proof.Proof.Deal
public import Idealize.ShloMosaic.Lib.Ring
public import Idealize.ShloMosaic.Lib.Pipeline.CollectiveSegs

@[expose] public section

set_option maxRecDepth 16384

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Slots of a buffer -/

theorem mem_slot (s : Fin 12) (i : S12x128x1024.Idx) : i ∈ (slotRect s).set ↔ (i (0 : Fin 3)).val = s.val := by
  rw [Rect.mem_set_unit]
  constructor
  · intro h
    have h0 : s.val ≤ (i (0 : Fin 3)).val ∧ (i (0 : Fin 3)).val < s.val + 1 := h (0 : Fin 3)
    omega
  · intro h a
    match a with
    | ⟨0, _⟩ =>
      show s.val ≤ (i (0 : Fin 3)).val ∧ (i (0 : Fin 3)).val < s.val + 1
      omega
    | ⟨1, _⟩ =>
      have := (i (1 : Fin 3)).isLt
      show 0 ≤ (i (1 : Fin 3)).val ∧ (i (1 : Fin 3)).val < 0 + 128
      exact ⟨Nat.zero_le _, by rw [Nat.zero_add]; exact this⟩
    | ⟨2, _⟩ =>
      have := (i (2 : Fin 3)).isLt
      show 0 ≤ (i (2 : Fin 3)).val ∧ (i (2 : Fin 3)).val < 0 + 1024
      exact ⟨Nat.zero_le _, by rw [Nat.zero_add]; exact this⟩

theorem slots_disjoint (s t : Fin 12) (h : s ≠ t) : Disjoint (slotRect s).set (slotRect t).set := by
  rw [Finset.disjoint_left]
  intro i hs ht
  exact h (Fin.ext (((mem_slot s i).mp hs).symm.trans ((mem_slot t i).mp ht)))

theorem slots_cover : (Finset.univ.biUnion fun s : Fin 12 => (slotRect s).set) = Finset.univ := by
  ext i
  simp only [Finset.mem_biUnion, Finset.mem_univ, true_and, iff_true]
  exact ⟨⟨(i (0 : Fin 3)).val, (i (0 : Fin 3)).isLt⟩, (mem_slot _ i).mpr rfl⟩

section Slots

variable (v : View sig .tc .vmem S12x128x1024 .bf16)

theorem view_disjoint (s t : Fin 12) (h : s ≠ t) : Disjoint (v.setOn (slotRect s).set) (v.setOn (slotRect t).set) :=
  View.disjoint_setOn v (slots_disjoint s t h)

theorem view_cover (hv : v.setOn Finset.univ = Finset.univ) : (Finset.univ.biUnion fun s : Fin 12 => v.setOn (slotRect s).set) = Finset.univ := by
  rw [← hv, ← slots_cover]
  ext i
  simp only [View.setOn, Finset.mem_biUnion, Finset.mem_univ, true_and, Finset.mem_map]
  constructor
  · rintro ⟨s, a, ha, rfl⟩; exact ⟨a, ⟨s, ha⟩, rfl⟩
  · rintro ⟨a, ⟨s, ha⟩, rfl⟩; exact ⟨s, a, ha, rfl⟩

end Slots

omit [FloatOps F] in
theorem send_some (c : Dev nD) (s : Fin 12) (f) : (sendPts (F := F) c s f : sProp 𝕄) ⊢ sendAny (F := F) c s := by
  unfold sendAny; iintro H; iexists f; iexact H

omit [FloatOps F] in
theorem send_slots (c : Dev nD) : iprop(∃ f, wholePts (F := F) c cc0_scratch2 f) ⊢ (chain (sendAny c) : sProp 𝕄) := by
  rw [chain_eq]
  iintro ⟨%f, H⟩
  ihave H' := (Entails.of_eq (Ring.pointsTo_blocks (fun s : Fin 12 => sM.view.setOn (slotRect s).set) (view_disjoint sM.view)
    (view_cover sM.view (View.setOn_whole_univ _)) (q := fullShare) f)) $$ H
  iapply (show (bigSep Finset.univ fun s : Fin 12 => sendPts (F := F) c s f)
    ⊢ bigSep Finset.univ (sendAny (F := F) c) from bigSep_mono fun s _ => send_some c s f)
  unfold sendPts
  iexact H'

theorem send_whole (c : Dev nD) : (chain (sendAny (F := F) c) : sProp 𝕄) ⊢ iprop(∃ f, wholePts (F := F) c cc0_scratch2 f) := by
  rw [chain_eq]
  have h := Ring.pointsTo_blocks_join_exists (nD := nD) (τ := τ) (sig := sig) (Ix := Unit) (Val := Elt F) (Name := ℕ) (U := UU) (Lvl := ℕ)
    (ℓ := sM.view.loc (c : Thread nD τ)) (fun s : Fin 12 => sM.view.setOn (slotRect s).set) (view_disjoint sM.view)
    (view_cover sM.view (View.setOn_whole_univ _)) (q := fullShare) (fun _ => (FloatOps.ofBits .bf16 0 : F .bf16))
  unfold sendAny sendPts
  exact h

omit [FloatOps F] in
theorem recv_some (c : Dev nD) (s : Fin 12) (f) : (recvPts (F := F) c s f : sProp 𝕄) ⊢ recvAny (F := F) c s := by
  unfold recvAny; iintro H; iexists f; iexact H

omit [FloatOps F] in
theorem recv_slots (c : Dev nD) : iprop(∃ f, wholePts (F := F) c cc0_scratch3 f) ⊢ (chain (recvAny c) : sProp 𝕄) := by
  rw [chain_eq]
  iintro ⟨%f, H⟩
  ihave H' := (Entails.of_eq (Ring.pointsTo_blocks (fun s : Fin 12 => rM.view.setOn (slotRect s).set) (view_disjoint rM.view)
    (view_cover rM.view (View.setOn_whole_univ _)) (q := fullShare) f)) $$ H
  iapply (show (bigSep Finset.univ fun s : Fin 12 => recvPts (F := F) c s f)
    ⊢ bigSep Finset.univ (recvAny (F := F) c) from bigSep_mono fun s _ => recv_some c s f)
  unfold recvPts
  iexact H'

theorem recv_whole (c : Dev nD) : (chain (recvAny (F := F) c) : sProp 𝕄) ⊢ iprop(∃ f, wholePts (F := F) c cc0_scratch3 f) := by
  rw [chain_eq]
  have h := Ring.pointsTo_blocks_join_exists (nD := nD) (τ := τ) (sig := sig) (Ix := Unit) (Val := Elt F) (Name := ℕ) (U := UU) (Lvl := ℕ)
    (ℓ := rM.view.loc (c : Thread nD τ)) (fun s : Fin 12 => rM.view.setOn (slotRect s).set) (view_disjoint rM.view)
    (view_cover rM.view (View.setOn_whole_univ _)) (q := fullShare) (fun _ => (FloatOps.ofBits .bf16 0 : F .bf16))
  unfold recvAny recvPts
  exact h

omit [FloatOps F] in
/-- The twelve landing slots are the three groups. -/
theorem recv_groups (c : Dev nD) : chain (recvAny (F := F) c) ⊢ (iprop(group (F := F) c 2 ∗ group (F := F) c 1 ∗ group (F := F) c 0) : sProp 𝕄) := by
  unfold chain group
  iintro ⟨H0, H1, H2, H3, H4, H5, H6, H7, H8, H9, H10, H11⟩
  isplitl [H8 H9 H10 H11]
  · isplitl [H8]; · iexact H8
    isplitl [H9]; · iexact H9
    isplitl [H10]; · iexact H10
    iexact H11
  isplitl [H4 H5 H6 H7]
  · isplitl [H4]; · iexact H4
    isplitl [H5]; · iexact H5
    isplitl [H6]; · iexact H6
    iexact H7
  isplitl [H0]; · iexact H0
  isplitl [H1]; · iexact H1
  isplitl [H2]; · iexact H2
  iexact H3

/-! ## The launch's data -/

def start (c : Dev nD) : sProp 𝕄 :=
  iprop(G' m c ∗ cred (tallyAt (barCell c) () 3) ∗ (bigSep Finset.univ fun s : Fin 12 => cred (tallyAt (recvCell c s) () N)) ∗ levAts L lv)

/-- The scratch buffers, whole at some contents. -/
def scratch (c : Dev nD) : sProp 𝕄 :=
  iprop((∃ f, wholePts (F := F) c cc0_scratch0 f) ∗ (∃ f, wholePts (F := F) c cc0_scratch1 f) ∗ (∃ f, wholePts (F := F) c cc0_scratch2 f)
    ∗ ∃ f, wholePts (F := F) c cc0_scratch3 f)

def Φ₀ (c : Dev nD) : sProp 𝕄 := iprop(start m c ∗ scratch (F := F) c)
def Φ₁ (c : Dev nD) : sProp 𝕄 :=
  iprop(scratch (F := F) c ∗ semVal (barCell c) 0 ∗ (bigSep Finset.univ fun s : Fin 12 => semVal (sendCell c s) 0)
    ∗ bigSep Finset.univ fun s : Fin 12 => semVal (recvCell c s) 0)

def s₀ : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => rwAt m c
    | ⟨2, _⟩ => ixAt m c
    | ⟨3, _⟩ => ewAt m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body obligation -/

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_intro (c : Dev nD) (b : Ref sig .tc) (X : b.ty.Contents (Elt F)) : (wholePts (F := F) c b X : sProp 𝕄) ⊢ stg c b X := by
  iintro H; iexists X; isplitr; · ipureintro; rfl
  iexact H

theorem before_0 (c : Dev nD) (d) : (dats m 0 c).before (0 : Fin 5) t0_0 d = xAt m c := by
  unfold Dat.before; rw [if_pos (fetch0_0 t0_0)]; rfl
theorem before_1 (c : Dev nD) (d) : (dats m 0 c).before (1 : Fin 5) t0_0 d = rwAt m c := by
  unfold Dat.before; rw [if_pos (fetch0_1 t0_0)]; rfl
theorem before_2 (c : Dev nD) (d) : (dats m 0 c).before (2 : Fin 5) t0_0 d = ixAt m c := by
  unfold Dat.before; rw [if_pos (fetch0_2 t0_0)]; rfl
theorem before_3 (c : Dev nD) (d) : (dats m 0 c).before (3 : Fin 5) t0_0 d = ewAt m c := by
  unfold Dat.before; rw [if_pos (fetch0_3 t0_0)]; rfl

def stagedIn (c : Dev nD) : sProp 𝕄 :=
  iprop((∃ d, stg c cc0_stg0_0 ((dats m 0 c).before (0 : Fin 5) t0_0 d)) ∗ (∃ d, stg c cc0_stg1_0 ((dats m 0 c).before (1 : Fin 5) t0_0 d))
    ∗ (∃ d, stg c cc0_stg2_0 ((dats m 0 c).before (2 : Fin 5) t0_0 d)) ∗ (∃ d, stg c cc0_stg3_0 ((dats m 0 c).before (3 : Fin 5) t0_0 d))
    ∗ ∃ d, stg c cc0_stg4_0 ((dats m 0 c).before (4 : Fin 5) t0_0 d))

def stagedOut (c : Dev nD) : sProp 𝕄 :=
  iprop(stg c cc0_stg0_0 (xAt m c) ∗ stg c cc0_stg1_0 (rwAt m c) ∗ stg c cc0_stg2_0 (ixAt m c) ∗ stg c cc0_stg3_0 (ewAt m c)
    ∗ stg c cc0_stg4_0 (outAt m c))

/-- The launch's deal, as the body takes it. -/
theorem body_in (c : Dev nD) : iprop(Φ₀ m c ∗ Owing (F := F) c (O₀ c)) ⊢ (iprop(∃ K, bodyIn m K c) : sProp 𝕄) := by
  unfold Φ₀ start G' ghost places payToks scratch bodyIn
  iintro ⟨⟨⟨⟨%K, #HR, ⟨HaB, HaS, HaV⟩, HtB, HtS⟩, HcB, HcV, #Hlev⟩, Hs0, Hs1, Hs2, Hs3⟩, HO⟩
  iexists K
  isplitr; · iexact HR
  isplitr; · iexact Hlev
  isplitl [HO]; · iexact HO
  isplitl [HcB HaB]
  · isplitl [HcB] <;> iassumption
  isplitl [HtB]; · iexact HtB
  isplitl [Hs3]
  · iapply (recv_groups (F := F) c)
    iapply (recv_slots (F := F) c); iexact Hs3
  isplitl [Hs2]
  · iapply (send_slots (F := F) c); iexact Hs2
  isplitl [HaS HtS]
  · rw [chain_eq]
    unfold outKit
    rw [bigSep_sep']
    isplitl [HtS] <;> iassumption
  isplitl [HcV HaV]
  · rw [chain_eq]
    unfold recvToks
    rw [bigSep_sep']
    isplitl [HcV] <;> iassumption
  isplitl [Hs0] <;> iassumption

/-- What the body leaves, as the exit takes it. -/
theorem body_out (c : Dev nD) : (bodyOut (F := F) c : sProp 𝕄) ⊢ iprop(Φ₁ (F := F) c ∗ Owing (F := F) c 0) := by
  unfold Φ₁ scratch bodyOut
  rw [chain_eq, chain_eq]
  iintro ⟨HO, HzB, HzS, HzV, Hs2, Hs3, Hs0, Hs1⟩
  isplitr [HO]
  · isplitl [Hs0 Hs1 Hs2 Hs3]
    · isplitl [Hs0]; · iexact Hs0
      isplitl [Hs1]; · iexact Hs1
      isplitl [Hs2]
      · iapply (send_whole (F := F) c); iexact Hs2
      iapply (recv_whole (F := F) c); iexact Hs3
    isplitl [HzB]; · iexact HzB
    isplitl [HzS] <;> iassumption
  iexact HO

theorem owes_in (c : Dev nD) : (dats m 0 c).owesAt () t0_0.castSucc ⊢ (Owing (F := F) c (O₀ c) : sProp 𝕄) := by
  unfold Dat.owesAt Pipeline.owesWithin Owing
  rw [show (dats m 0 c).owed t0_0.castSucc = O₀ c from rfl]
  iintro ⟨%W, -, HO⟩
  iexists W; iexact HO
theorem owes_out (c : Dev nD) : (Owing (F := F) c 0 : sProp 𝕄) ⊢ (dats m 0 c).owesAt () t0_0.succ := by
  unfold Dat.owesAt Pipeline.owesWithin Owing
  rw [show (dats m 0 c).owed t0_0.succ = 0 from rfl]
  iintro ⟨%W, HO⟩
  iexists W
  isplitr; · ipureintro; exact fun _ _ => Or.inl trivial
  iexact HO

theorem body_wp (c : Dev nD) :
    iprop(Φ₀ m c ∗ (dats m 0 c).owesAt () t0_0.castSucc ∗ stagedIn m c)
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) cc0_scratch4 cc0_scratch5)
          (fun _ => iprop(Φ₁ (F := F) c ∗ (dats m 0 c).owesAt () t0_0.succ ∗ stagedOut m c)) := by
  unfold stagedIn
  simp only [before_0, before_1, before_2, before_3]
  iintro ⟨HΦ, HO, ⟨%d0, %f0, %e0, H0⟩, ⟨%d1, %f1, %e1, H1⟩, ⟨%d2, %f2, %e2, H2⟩, ⟨%d3, %f3, %e3, H3⟩, ⟨%d4, %f4, -, H4⟩⟩
  subst e0 e1 e2 e3
  ihave HO' := (owes_in m c) $$ HO
  ihave HB := (body_in m c) $$ [HΦ HO']
  · isplitl [HΦ] <;> iassumption
  icases HB with ⟨%K, HB⟩
  iapply (sound_body m K c f4 _)
  isplitl [HB]; · iexact HB
  isplitl [H0 H1 H2 H3 H4]
  · isplitl [H0]; · iexact H0
    isplitl [H1]; · iexact H1
    isplitl [H2]; · iexact H2
    isplitl [H3] <;> iassumption
  iintro ⟨HB, H0, H1, H2, H3, H4⟩
  ihave HB' := (body_out (F := F) c) $$ HB
  icases HB' with ⟨HΦ, HO⟩
  isplitl [HΦ]; · iexact HΦ
  isplitl [HO]; · iapply (owes_out m c); iexact HO
  unfold stagedOut
  isplitl [H0]; · iapply (stg_intro (F := F) c cc0_stg0_0 _); iexact H0
  isplitl [H1]; · iapply (stg_intro (F := F) c cc0_stg1_0 _); iexact H1
  isplitl [H2]; · iapply (stg_intro (F := F) c cc0_stg2_0 _); iexact H2
  isplitl [H3]; · iapply (stg_intro (F := F) c cc0_stg3_0 _); iexact H3
  iapply (stg_intro (F := F) c cc0_stg4_0 _); iexact H4

theorem body_obligation (c : Dev nD) : BodyObligation (dats m 0 c) (defs₀ (F := F)) 𝒱₀ () Set.univ := fun t => by
  rw [fin_N0 t]
  rw [bigSep_W0, bigSep_W0]
  simp only [owns_whole]
  exact body_wp m c

/-! ## The launch -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, HzB, HzS, HzV⟩
  isplitl [HzB]; · iexact HzB
  isplitl [HzS HzV]
  · isplitl [HzS] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

def Ends (r : PUnit × MemSt nD τ sig (Elt F)) : Prop :=
  ∀ c : Dev nD, ∀ w : Fin cfg0.W, r.2.mem ((cfg0.win w).arr.view.loc (c : Thread nD τ)) = finalA m c w

/-- From any memory with zero counters, on the mesh of four devices, at any float values: every fair execution ends, each
    device's arrays at the contents the schedule names and every counter at zero. -/
theorem run_main : θ_run defs (onTc (τ := τ) (main (F := F))) (s₀ m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Exchange

end
-- ==== Proof.Mix.lean ====
/-
The arithmetic of the mixture over the extended reals, apart from any program.

A token's two gates are softmax values of finite scores, so they are positive reals and the two weights made of them
are nonnegative reals: multiplication by such a weight distributes over any sum of extended reals. Summing every
expert's gated product over the sixteen experts, four to a device, therefore leaves the two chosen experts' products,
each times its weight.
-/
module

public import Idealize.ShloMosaic.PureOps.Ideal
public import Idealize.ShloMosaic.PureOps.Ideal.Laws
public import Mathlib.Algebra.BigOperators.Fin
public import Mathlib.Data.EReal.Operations

@[expose] public section

noncomputable section

namespace Cert.Mix

open Idealize.ShloMosaic
open scoped BigOperators

/-! ## Real values -/

/-- The sum of reals, taken among the extended ones. -/
theorem coe_sum_real {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A sum of reals is a real. -/
theorem sum_real {ι : Type} (s : Finset ι) (f : ι → EReal) (h : ∀ i, ∃ r : ℝ, f i = r) : ∃ r : ℝ, ∑ i ∈ s, f i = r := by
  choose g hg using h
  exact ⟨∑ i ∈ s, g i, by rw [Finset.sum_congr rfl fun i _ => hg i, coe_sum_real]⟩

/-- Nor bottom nor top: a real. -/
theorem real_of_abs_lt_top {x : EReal} (h : max x (-x) < ⊤) : ∃ r : ℝ, x = r := by
  induction x with
  | bot => simp at h
  | top => simp at h
  | coe r => exact ⟨r, rfl⟩

/-- The quotient of reals by a positive one. -/
theorem div_real (a : ℝ) {b : ℝ} (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-! ## The gates -/

/-- The greatest score. -/
def top (s : Fin 16 → EReal) : EReal := Finset.univ.fold max ⊥ s

/-- The scores' softmax. -/
def soft (s : Fin 16 → EReal) (e : Fin 16) : EReal :=
  Ideal.div (Ideal.exp (s e - top s)) (∑ e', Ideal.exp (s e' - top s))

theorem top_real (s : Fin 16 → EReal) (h : ∀ e, ∃ r : ℝ, s e = r) : ∃ r : ℝ, top s = r := by
  obtain ⟨i, -, hi⟩ := Finset.exists_mem_eq_sup Finset.univ ⟨(0 : Fin 16), Finset.mem_univ _⟩ s
  obtain ⟨r, hr⟩ := h i
  exact ⟨r, (show top s = Finset.univ.sup s from rfl).trans (hi.trans hr)⟩

/-- Of finite scores the softmax is a positive real. -/
theorem soft_pos (s : Fin 16 → EReal) (h : ∀ e, ∃ r : ℝ, s e = r) (e : Fin 16) : ∃ p : ℝ, 0 < p ∧ soft s e = p := by
  obtain ⟨M, hM⟩ := top_real s h
  choose r hr using h
  have hx : ∀ e, Ideal.exp (s e - top s) = ((Real.exp (r e - M) : ℝ) : EReal) := fun e => by
    rw [hr e, hM, ← EReal.coe_sub]; rfl
  have hpos : 0 < ∑ e, Real.exp (r e - M) := Finset.sum_pos (fun e _ => Real.exp_pos _) ⟨(0 : Fin 16), Finset.mem_univ _⟩
  refine ⟨Real.exp (r e - M) / ∑ e, Real.exp (r e - M), div_pos (Real.exp_pos _) hpos, ?_⟩
  unfold soft
  rw [Finset.sum_congr rfl fun e' _ => hx e', hx e, ← coe_sum_real, div_real _ hpos]

/-- The two weights of a token: each gate over their sum. -/
def weight (a g : EReal) : EReal := Ideal.div a g

theorem weights_real {s : Fin 16 → EReal} (h : ∀ e, ∃ r : ℝ, s e = r) (e e0 e1 : Fin 16) :
    ∃ q : ℝ, 0 ≤ q ∧ weight (soft s e) (soft s e0 + soft s e1) = q := by
  obtain ⟨p, hp, he⟩ := soft_pos s h e
  obtain ⟨a, ha, h0⟩ := soft_pos s h e0
  obtain ⟨b, hb, h1⟩ := soft_pos s h e1
  exact ⟨p / (a + b), (div_pos hp (add_pos ha hb)).le, by
    unfold weight
    rw [he, h0, h1, ← EReal.coe_add, div_real _ (add_pos ha hb)]⟩

/-! ## The mixture -/

/-- A nonnegative real times a sum. -/
theorem mul_sum_real {ι : Type} (s : Finset ι) (f : ι → EReal) {q : ℝ} (hq : 0 ≤ q) :
    (q : EReal) * ∑ i ∈ s, f i = ∑ i ∈ s, (q : EReal) * f i := by
  classical
  induction s using Finset.induction_on with
  | empty => simp
  | insert a s ha ih =>
    rw [Finset.sum_insert ha, Finset.sum_insert ha, ← ih,
      EReal.left_distrib_of_nonneg_of_ne_top (by exact_mod_cast hq) (EReal.coe_ne_top q)]

/-- A token's gate for expert `e`: the weight of each choice that is `e`. -/
def gate (e0 e1 : Fin 16) (w0 w1 : EReal) (e : Fin 16) : EReal := (if e0 = e then w0 else 0) + (if e1 = e then w1 else 0)

theorem gate_real (e0 e1 : Fin 16) {w0 w1 : EReal} (h0 : ∃ q : ℝ, 0 ≤ q ∧ w0 = q) (h1 : ∃ q : ℝ, 0 ≤ q ∧ w1 = q) (e : Fin 16) :
    ∃ q : ℝ, 0 ≤ q ∧ gate e0 e1 w0 w1 e = q := by
  obtain ⟨a, ha, rfl⟩ := h0
  obtain ⟨b, hb, rfl⟩ := h1
  unfold gate
  split <;> split
  · exact ⟨a + b, add_nonneg ha hb, by rw [EReal.coe_add]⟩
  · exact ⟨a, ha, by rw [add_zero]⟩
  · exact ⟨b, hb, by rw [zero_add]⟩
  · exact ⟨0, le_rfl, by rw [add_zero, EReal.coe_zero]⟩

/-- A token's row against one column of an expert's matrix. -/
def dot (x W : Fin 512 → EReal) : EReal := ∑ k, x k * W k

/-- Gating the row before the product is weighing the product. -/
theorem gated_dot (x W : Fin 512 → EReal) {g : EReal} (h : ∃ q : ℝ, 0 ≤ q ∧ g = q) : (∑ k, (x k * g) * W k) = g * dot x W := by
  obtain ⟨q, hq, rfl⟩ := h
  unfold dot
  rw [mul_sum_real _ _ hq]
  exact Finset.sum_congr rfl fun k _ => by rw [mul_comm (x k), mul_assoc]

/-- The sixteen gated products sum to the two chosen ones. -/
theorem gate_sum (e0 e1 : Fin 16) {w0 w1 : EReal} (h0 : ∃ q : ℝ, 0 ≤ q ∧ w0 = q) (h1 : ∃ q : ℝ, 0 ≤ q ∧ w1 = q) (y : Fin 16 → EReal) :
    (∑ e, gate e0 e1 w0 w1 e * y e) = w0 * y e0 + w1 * y e1 := by
  have hn : ∀ {w : EReal}, (∃ q : ℝ, 0 ≤ q ∧ w = q) → 0 ≤ w := fun h => by
    obtain ⟨q, hq, rfl⟩ := h; exact_mod_cast hq
  have hs : ∀ e, gate e0 e1 w0 w1 e * y e = (if e0 = e then w0 * y e else 0) + (if e1 = e then w1 * y e else 0) := fun e => by
    unfold gate
    rw [EReal.right_distrib_of_nonneg (by split; exacts [hn h0, le_rfl]) (by split; exacts [hn h1, le_rfl])]
    simp only [ite_mul, zero_mul]
  rw [Finset.sum_congr rfl fun e _ => hs e, Finset.sum_add_distrib, Finset.sum_ite_eq, Finset.sum_ite_eq,
    if_pos (Finset.mem_univ _), if_pos (Finset.mem_univ _)]

/-- Expert `4 d + l`. -/
def expert (d l : Fin 4) : Fin 16 := ⟨4 * d.val + l.val, by have := d.isLt; have := l.isLt; omega⟩

/-- The sixteen experts are four devices' four. -/
theorem sum_experts (f : Fin 16 → EReal) : (∑ d, ∑ l, f (expert d l)) = ∑ e, f e := by
  rw [← Fintype.sum_prod_type', ← Equiv.sum_comp (finProdFinEquiv (m := 4) (n := 4)) f]
  refine Finset.sum_congr rfl fun p _ => congrArg f (Fin.ext ?_)
  show 4 * p.1.val + p.2.val = p.2.val + 4 * p.1.val
  omega

/-- The 2048 rows of a device's stacked matrices are its four experts' 512. -/
theorem sum_stack (f : Fin 4 → Fin 512 → EReal) :
    (∑ k : Fin 2048, f ⟨k.val / 512, by omega⟩ ⟨k.val % 512, by omega⟩) = ∑ l, ∑ k, f l k := by
  rw [← Fintype.sum_prod_type', ← Equiv.sum_comp (finProdFinEquiv (m := 4) (n := 512))]
  refine Finset.sum_congr rfl fun p _ => ?_
  have h : (finProdFinEquiv (m := 4) (n := 512) p).val = p.2.val + 512 * p.1.val := rfl
  refine congrArg₂ f (Fin.ext ?_) (Fin.ext ?_)
  · show (finProdFinEquiv (m := 4) (n := 512) p).val / 512 = p.1.val
    rw [h]; have := p.2.isLt; omega
  · show (finProdFinEquiv (m := 4) (n := 512) p).val % 512 = p.2.val
    rw [h]; have := p.2.isLt; omega

/-- What one device contributes to a token's entry: its stacked matrices against the row gated for each of its experts. -/
def share (x : Fin 512 → EReal) (g : Fin 16 → EReal) (W : Fin 16 → Fin 512 → EReal) (d : Fin 4) : EReal :=
  ∑ k : Fin 2048, (x ⟨k.val % 512, by omega⟩ * g (expert d ⟨k.val / 512, by omega⟩))
    * W (expert d ⟨k.val / 512, by omega⟩) ⟨k.val % 512, by omega⟩

/-- A token's scores. -/
def scores (x : Fin 512 → EReal) (rw : Fin 512 → Fin 16 → EReal) (e : Fin 16) : EReal := ∑ k, x k * rw k e

/-- A token's entry of the mixture. -/
def mixed (x : Fin 512 → EReal) (rw : Fin 512 → Fin 16 → EReal) (W : Fin 16 → Fin 512 → EReal) (e0 e1 : Fin 16) : EReal :=
  let p := soft (scores x rw)
  weight (p e0) (p e0 + p e1) * dot x (W e0) + weight (p e1) (p e0 + p e1) * dot x (W e1)

/-- A token's gates. -/
def gates (x : Fin 512 → EReal) (rw : Fin 512 → Fin 16 → EReal) (e0 e1 : Fin 16) : Fin 16 → EReal :=
  let p := soft (scores x rw)
  gate e0 e1 (weight (p e0) (p e0 + p e1)) (weight (p e1) (p e0 + p e1))

theorem scores_real {x : Fin 512 → EReal} {rw : Fin 512 → Fin 16 → EReal} (hx : ∀ k, ∃ r : ℝ, x k = r)
    (hr : ∀ k e, ∃ r : ℝ, rw k e = r) (e : Fin 16) : ∃ r : ℝ, scores x rw e = r :=
  sum_real _ _ fun k => by
    obtain ⟨a, ha⟩ := hx k
    obtain ⟨b, hb⟩ := hr k e
    exact ⟨a * b, by rw [ha, hb, EReal.coe_mul]⟩

/-- The four devices' contributions sum to the mixture. -/
theorem sum_shares {x : Fin 512 → EReal} {rw : Fin 512 → Fin 16 → EReal} (W : Fin 16 → Fin 512 → EReal) (e0 e1 : Fin 16)
    (hx : ∀ k, ∃ r : ℝ, x k = r) (hr : ∀ k e, ∃ r : ℝ, rw k e = r) :
    (∑ d, share x (gates x rw e0 e1) W d) = mixed x rw W e0 e1 := by
  have hs := scores_real hx hr
  have h0 := weights_real hs e0 e0 e1
  have h1 := weights_real hs e1 e0 e1
  have hg := gate_real e0 e1 h0 h1
  have hd : ∀ d, share x (gates x rw e0 e1) W d
      = ∑ l, gates x rw e0 e1 (expert d l) * dot x (W (expert d l)) := fun d =>
    (sum_stack fun l k => (x k * gates x rw e0 e1 (expert d l)) * W (expert d l) k).trans
      (Finset.sum_congr rfl fun l _ => gated_dot x (W (expert d l)) (hg (expert d l)))
  rw [Finset.sum_congr rfl fun d _ => hd d, sum_experts fun e => gates x rw e0 e1 e * dot x (W e)]
  exact gate_sum e0 e1 h0 h1 fun e => dot x (W e)

/-- Added one after another, a device's own share first and then the ones from three, two and one places on. -/
theorem sum_rotated (f : Fin 4 → EReal) (c a b d : Fin 4) (ha : a.val = (c.val + 3) % 4) (hb : b.val = (c.val + 2) % 4)
    (hd : d.val = (c.val + 1) % 4) : f c + f a + f b + f d = ∑ i, f i := by
  have h : ∀ c : Fin 4, f c + f ⟨(c.val + 3) % 4, by omega⟩ + f ⟨(c.val + 2) % 4, by omega⟩ + f ⟨(c.val + 1) % 4, by omega⟩
      = ∑ i, f i := fun c => by
    rw [Fin.sum_univ_four]
    fin_cases c
    · show f 0 + f 3 + f 2 + f 1 = _
      abel
    · show f 1 + f 0 + f 3 + f 2 = _
      abel
    · show f 2 + f 1 + f 0 + f 3 = _
      abel
    · show f 3 + f 2 + f 1 + f 0 = _
      abel
  have e := h c
  rw [show (⟨(c.val + 3) % 4, by omega⟩ : Fin 4) = a from Fin.ext ha.symm, show (⟨(c.val + 2) % 4, by omega⟩ : Fin 4) = b from Fin.ext hb.symm,
    show (⟨(c.val + 1) % 4, by omega⟩ : Fin 4) = d from Fin.ext hd.symm] at e
  exact e

end Cert.Mix

end
-- ==== Proof.KernelValue.lean ====
/-
The kernel's contents over the extended reals, read at an index: the probabilities are a softmax of the scores, a
scaled row is the token's row times the gate of the expert, and a device's share of an entry is the sum over its
stacked experts. The result is the sum of the four devices' shares.
-/
module

public import proofs.«01_k».proof.Proof.Mix
public import proofs.«01_k».proof.Proof.Contents
public import Idealize.ShloMosaic.Lib.Pointwise
public import Idealize.ShloMosaic.Lib.WordCmp

@[expose] public section

set_option maxRecDepth 16384

noncomputable section

namespace Cert.KernelIdeal.Exchange

open Cert.KernelIdeal Cert.KernelIdeal.Gen Cert.Mix
open Idealize.ShloMosaic Idealize.ShloMosaic.TcCoe

/-- A chunk's probabilities are its scores' softmax. -/
theorem probs_apply (rw : Vec Ideal S512x16 .bf16) (X : Vec Ideal S512x512 .bf16) (t : Fin 512) (e : Fin 16) :
    probs (F := Ideal) rw X (ix2 t e) = soft (scores (fun k => X (ix2 t k)) (fun k e => rw (ix2 k e))) e := by
  pointwise [probs, k0_pay8, k0_pay7, k0_pay1]
  rfl

/-- A select by the equality of two small numbers. -/
theorem select_eq {α : Type} (a b : ℕ) (ha : a < 2 ^ 32) (hb : b < 2 ^ 32) (u v : α) :
    Scalar.select (IntOp.cmpi .eq (BitVec.ofNat 32 a) (BitVec.ofNat 32 b)) u v = if a = b then u else v := by
  rw [WordCmp.cmpi_eq_ofNat ha hb]
  by_cases h : a = b
  · rw [if_pos h, decide_eq_true h]; rfl
  · rw [if_neg h, decide_eq_false h]; rfl

/-- The sum that picks one entry of a row. -/
theorem pick_sum (p : Fin 16 → EReal) (e : Fin 16) :
    (∑ x : Fin 16, Scalar.select (IntOp.cmpi .eq (BitVec.ofNat 32 x.val) (BitVec.ofNat 32 e.val)) (p x) 0) = p e := by
  rw [Finset.sum_congr rfl fun x _ => (select_eq x.val e.val (by omega) (by omega) (p x) 0).trans
    (if_congr (Fin.val_inj (a := x) (b := e)) rfl rfl), Finset.sum_ite_eq' Finset.univ e p, if_pos (Finset.mem_univ _)]

theorem first_apply (p : FVec Ideal S512x16 .f32) (i : IVec S512x1 32) (t : Fin 512) (e : Fin 16)
    (h : i (ix2 t 0) = BitVec.ofNat 32 e.val) : k0_pay11 (F := Ideal) p i cols (ix2 t 0) = p (ix2 t e) := by
  pointwise [k0_pay11, cols]
  rw [h]
  exact pick_sum (fun e => p (ix2 t e)) e

theorem second_apply (p : FVec Ideal S512x16 .f32) (i : IVec S512x1 32) (t : Fin 512) (e : Fin 16)
    (h : i (ix2 t 0) = BitVec.ofNat 32 e.val) : k0_pay12 (F := Ideal) p i cols (ix2 t 0) = p (ix2 t e) :=
  first_apply p i t e h

section

variable (rw : Vec Ideal S512x16 .bf16) (X : Vec Ideal S512x512 .bf16) (i0 i1 : Vec Ideal S512x1 .i32) (t : Fin 512)
  (e0 e1 : Fin 16) (h0 : i0 (ix2 t 0) = BitVec.ofNat 32 e0.val) (h1 : i1 (ix2 t 0) = BitVec.ofNat 32 e1.val)

/-- A token's probabilities. -/
def tokenProbs : Fin 16 → EReal := soft (scores (fun k => X (ix2 t k)) (fun k e => rw (ix2 k e)))

include h0 h1 in
theorem gateA_apply : gateA (F := Ideal) rw X i0 i1 (ix2 t 0)
    = weight (tokenProbs rw X t e0) (tokenProbs rw X t e0 + tokenProbs rw X t e1) := by
  have a := first_apply (probs (F := Ideal) rw X) (k0_pay9 (F := Ideal) i0) t e0 (by pointwise [k0_pay9]; exact h0)
  have b := second_apply (probs (F := Ideal) rw X) (k0_pay10 (F := Ideal) i1) t e1 (by pointwise [k0_pay10]; exact h1)
  rw [probs_apply] at a b
  show Ideal.div (k0_pay11 (F := Ideal) _ _ cols (ix2 t 0))
    (k0_pay11 (F := Ideal) _ _ cols (ix2 t 0) + k0_pay12 (F := Ideal) _ _ cols (ix2 t 0)) = _
  rw [a, b]
  rfl

include h0 h1 in
theorem gateB_apply : gateB (F := Ideal) rw X i0 i1 (ix2 t 0)
    = weight (tokenProbs rw X t e1) (tokenProbs rw X t e0 + tokenProbs rw X t e1) := by
  have a := first_apply (probs (F := Ideal) rw X) (k0_pay9 (F := Ideal) i0) t e0 (by pointwise [k0_pay9]; exact h0)
  have b := second_apply (probs (F := Ideal) rw X) (k0_pay10 (F := Ideal) i1) t e1 (by pointwise [k0_pay10]; exact h1)
  rw [probs_apply] at a b
  show Ideal.div (k0_pay12 (F := Ideal) _ _ cols (ix2 t 0))
    (k0_pay11 (F := Ideal) _ _ cols (ix2 t 0) + k0_pay12 (F := Ideal) _ _ cols (ix2 t 0)) = _
  rw [a, b]
  rfl

/-- The rows scaled for the expert of word `g`. -/
def scaled (g : BitVec 32) : Vec Ideal S512x512 .bf16 :=
  let z : FVec Ideal S512x1 .f32 := broadcast S512x1 (Scalar.ofBits .f32 0x00000000#32)
  mulf (F := Ideal) (φ := .bf16) (k0_pay7 X) (broadcastTo S512x512 (truncf .bf16 (addf
      (select (cmpi .eq (k0_pay9 (F := Ideal) i0) (broadcast S512x1 g)) (gateA rw X i0 i1) z)
      (select (cmpi .eq (k0_pay10 (F := Ideal) i1) (broadcast S512x1 g)) (gateB rw X i0 i1) z)) bitsLt_bf16_f32)
    broadcasts_S512x1_S512x512)

theorem gated_scaled (w : BitVec 32) (le : Fin 4) : gated (F := Ideal) w rw X i0 i1 le
    = scaled rw X i0 i1 (Scalar.addi (Scalar.muli w 4#32) (BitVec.ofNat 32 le.val)) := by
  match le with
  | ⟨0, _⟩ => exact shapeCast_self (scaled rw X i0 i1 (Scalar.addi (Scalar.muli w 4#32) 0#32)) shapeCasts_S512x512_S512x512
  | ⟨1, _⟩ => exact shapeCast_self (scaled rw X i0 i1 (Scalar.addi (Scalar.muli w 4#32) 1#32)) shapeCasts_S512x512_S512x512
  | ⟨2, _⟩ => exact shapeCast_self (scaled rw X i0 i1 (Scalar.addi (Scalar.muli w 4#32) 2#32)) shapeCasts_S512x512_S512x512
  | ⟨3, _⟩ => exact shapeCast_self (scaled rw X i0 i1 (Scalar.addi (Scalar.muli w 4#32) 3#32)) shapeCasts_S512x512_S512x512

include h0 h1 in
/-- A scaled row is the token's row times its gate for the expert. -/
theorem scaled_apply (e : Fin 16) (k : Fin 512) : scaled rw X i0 i1 (BitVec.ofNat 32 e.val) (ix2 t k)
    = X (ix2 t k) * gates (fun k => X (ix2 t k)) (fun k e => rw (ix2 k e)) e0 e1 e := by
  pointwise [scaled, k0_pay7, k0_pay9, k0_pay10]
  rw [h0, h1, select_eq _ _ (by omega) (by omega), select_eq _ _ (by omega) (by omega),
    gateA_apply rw X i0 i1 t e0 e1 h0 h1, gateB_apply rw X i0 i1 t e0 e1 h0 h1]
  simp only [Fin.val_inj]
  rfl

end

theorem devWord_expert (c : Dev nD) (le : Fin 4) :
    Scalar.addi (Scalar.muli (devWord c) 4#32) (BitVec.ofNat 32 le.val) = BitVec.ofNat 32 (expert c le).val := by
  revert c le; decide

/-! ## A chunk's rows -/

/-- Token `i` of chunk `k`. -/
def token (k : Dev nD) (i : Fin 512) : Fin 2048 := ⟨512 * k.val + i.val, by have := k.isLt; have : nD = 4 := rfl; omega⟩

theorem xPart_apply (x : Vec Ideal S2048x512 .bf16) (k : Dev nD) (t j : Fin 512) : xPart x k (ix2 t j) = x (ix2 (token k t) j) := by
  refine congrArg x (funext fun a => Fin.ext ?_)
  match a with
  | ⟨0, _⟩ => show 512 * k.val + 1 * t.val = 512 * k.val + t.val; omega
  | ⟨1, _⟩ => show 0 + 1 * j.val = j.val; omega

theorem firstPart_apply (ix : Vec Ideal S2048x2 .i32) (k : Dev nD) (t : Fin 512) :
    firstPart ix k (ix2 t 0) = ix (ix2 (token k t) 0) := by
  refine congrArg ix (funext fun a => Fin.ext ?_)
  match a with
  | ⟨0, _⟩ => show 512 * k.val + 1 * t.val = 512 * k.val + t.val; omega
  | ⟨1, _⟩ => rfl

theorem secondPart_apply (ix : Vec Ideal S2048x2 .i32) (k : Dev nD) (t : Fin 512) :
    secondPart ix k (ix2 t 0) = ix (ix2 (token k t) 1) := by
  refine congrArg ix (funext fun a => Fin.ext ?_)
  match a with
  | ⟨0, _⟩ => show 512 * k.val + 1 * t.val = 512 * k.val + t.val; omega
  | ⟨1, _⟩ => rfl

section

variable (c k : Dev nD) (x : Vec Ideal S2048x512 .bf16) (rw : Vec Ideal S512x16 .bf16) (ix : Vec Ideal S2048x2 .i32)
  (ew : Vec Ideal S4x512x1024 .bf16) (i : Fin 512) (n : Fin 1024) (e0 e1 : Fin 16)
  (h0 : ix (ix2 (token k i) 0) = BitVec.ofNat 32 e0.val) (h1 : ix (ix2 (token k i) 1) = BitVec.ofNat 32 e1.val)
  (W : Fin 16 → Fin 512 → EReal) (hW : ∀ l j, ew (ix3 l j n) = W (expert c l) j)

/-- Token `i` of chunk `k`'s entry of what device `c` contributes. -/
def shareAt : EReal :=
  share (fun j => x (ix2 (token k i) j)) (gates (fun j => x (ix2 (token k i) j)) (fun j e => rw (ix2 j e)) e0 e1) W c

include h0 h1 in
theorem chunkGated_apply (le : Fin 4) (j : Fin 512) : chunkGated (F := Ideal) c k x rw ix le (ix2 i j)
    = x (ix2 (token k i) j) * gates (fun j => x (ix2 (token k i) j)) (fun j e => rw (ix2 j e)) e0 e1 (expert c le) := by
  unfold chunkGated
  rw [gated_scaled, devWord_expert,
    scaled_apply rw (xPart x k) (firstPart ix k) (secondPart ix k) i e0 e1 ((firstPart_apply ix k i).trans h0)
      ((secondPart_apply ix k i).trans h1)]
  simp only [xPart_apply]

include h0 h1 hW in
/-- The products of one token's gated rows with the stacked experts sum to the device's contribution. -/
theorem stacked_sum :
    (∑ q : Fin 2048, chunkGated (F := Ideal) c k x rw ix ⟨q.val / 512, by omega⟩ (ix2 i ⟨q.val % 512, by omega⟩)
      * ew (ix3 ⟨q.val / 512, by omega⟩ ⟨q.val % 512, by omega⟩ n)) = shareAt c k x rw i e0 e1 W := by
  unfold shareAt share
  exact Finset.sum_congr rfl fun q _ => by rw [chunkGated_apply c k x rw ix i e0 e1 h0 h1, hW]

end

section

variable (c k : Dev nD) (x : Vec Ideal S2048x512 .bf16) (rw : Vec Ideal S512x16 .bf16) (ix : Vec Ideal S2048x2 .i32)
  (ew : Vec Ideal S4x512x1024 .bf16) (n : Fin 1024) (e0 e1 : Fin 16) (W : Fin 16 → Fin 512 → EReal)

theorem ownShare_apply (i : Fin 512) (h0 : ix (ix2 (token c i) 0) = BitVec.ofNat 32 e0.val)
    (h1 : ix (ix2 (token c i) 1) = BitVec.ofNat 32 e1.val) (hW : ∀ l j, ew (ix3 l j n) = W (expert c l) j) :
    ownShare (F := Ideal) c x rw ix ew (ix2 i n) = shareAt c c x rw i e0 e1 W := by
  rw [← stacked_sum c c x rw ix ew i n e0 e1 h0 h1 W hW]
  pointwise [ownShare, k0_pay80]
  refine Finset.sum_congr rfl fun q _ => ?_
  unfold gatedAll stacked
  simp only [← ix2_eq_valueIdx, ← ix3_eq_valueIdx]
  rfl

theorem sentBlock_apply (h : Fin 4) (j : Fin 128) (i : Fin 512) (hi : i.val = 128 * h.val + j.val)
    (h0 : ix (ix2 (token k i) 0) = BitVec.ofNat 32 e0.val)
    (h1 : ix (ix2 (token k i) 1) = BitVec.ofNat 32 e1.val) (hW : ∀ l j, ew (ix3 l j n) = W (expert c l) j) :
    sentBlock (F := Ideal) c k x rw ix ew h (ix3 0 j n) = shareAt c k x rw i e0 e1 W := by
  rw [← stacked_sum c k x rw ix ew i n e0 e1 h0 h1 W hW]
  pointwise [sentBlock, sendOf, k0_pay21]
  refine Finset.sum_congr rfl fun q _ => ?_
  unfold gatedRows stacked
  simp only [← ix2_eq_valueIdx, ← ix3_eq_valueIdx]
  have row : ∀ i' : Fin 512, i' = i →
      chunkGated (F := Ideal) c k x rw ix ⟨q.val / 512, by omega⟩ (ix2 i' ⟨q.val % 512, by omega⟩)
          * ew (ix3 ⟨q.val / 512, by omega⟩ ⟨q.val % 512, by omega⟩ n)
        = chunkGated (F := Ideal) c k x rw ix ⟨q.val / 512, by omega⟩ (ix2 i ⟨q.val % 512, by omega⟩)
          * ew (ix3 ⟨q.val / 512, by omega⟩ ⟨q.val % 512, by omega⟩ n) := fun _ e => by rw [e]
  exact row _ (Fin.ext hi.symm)

end

/-- An entry of the result: the own share's and the three received blocks', added in order. -/
theorem resultOf_apply (own : Vec Ideal S512x1024 .f32) (r : Fin 3 → Fin 4 → Vec Ideal S1x128x1024 .bf16) (i : Fin 512)
    (n : Fin 1024) (h : Fin 4) (j : Fin 128) (hi : i.val = 128 * h.val + j.val) :
    resultOf (F := Ideal) own r (ix2 i n)
      = own (ix2 i n) + r 0 h (ix3 0 j n) + r 1 h (ix3 0 j n) + r 2 h (ix3 0 j n) := by
  have hh : (⟨i.val / 128, by omega⟩ : Fin 4) = h := Fin.ext (by show i.val / 128 = h.val; omega)
  have hj : (⟨i.val % 128, by omega⟩ : Fin 128) = j := Fin.ext (by show i.val % 128 = j.val; omega)
  have key : resultOf (F := Ideal) own r (ix2 i n)
      = addRows (addRows (addRows (rowsOf own h) (r 0 h)) (r 1 h)) (r 2 h) (ix2 j n) := by
    have row : ∀ (h' : Fin 4) (j' : Fin 128), h' = h → j' = j →
        addRows (addRows (addRows (rowsOf own h') (r 0 h')) (r 1 h')) (r 2 h') (ValueIdx.ix2 j' n)
          = addRows (addRows (addRows (rowsOf own h) (r 0 h)) (r 1 h)) (r 2 h) (ix2 j n) := fun _ _ eh ej => by
      rw [eh, ej, ix2_eq_valueIdx]
    exact row _ _ hh hj
  rw [key]
  pointwise [addRows, k0_pay82, k0_pay81]
  refine congrArg (· + _ + _ + _) (congrArg own (funext fun a => Fin.ext ?_))
  match a with
  | ⟨0, _⟩ => show 128 * h.val + 1 * j.val = i.val; omega
  | ⟨1, _⟩ => show 0 + 1 * n.val = n.val; omega

end Cert.KernelIdeal.Exchange
end
-- ==== Proof.ReferenceValue.lean ====
/-
The reference over the extended reals, read at an index: a token's entry is the mixture of its two chosen experts'
products, weighed by the softmax of its scores.
-/
module

public import proofs.«01_k».proof.Proof.Mix
public import proofs.«01_k».proof.Proof.Gen.ReferenceIdeal.Run
public import Idealize.ShloMosaic.Lib.Pointwise
public import Idealize.ShloMosaic.Lib.WordCmp

@[expose] public section

set_option maxRecDepth 16384

noncomputable section

namespace Cert.ReferenceIdeal.Mixture

open Cert.ReferenceIdeal Cert.ReferenceIdeal.Gen Cert.Mix
open Idealize.ShloMosaic Idealize.ShloMosaic.TcCoe

/-! ## The two gathers -/

/-- A small number as a start index: inside the axis, so the clamp leaves it. -/
theorem clamped (e : Fin 16) : min (BitVec.ofNat 32 e.val).toInt.toNat 15 = e.val := by
  revert e; decide

theorem gather_probs (P : FVec Ideal S2048x16 .f32) (idx : IVec S2048x2x1 32) (t : Fin 2048) (j : Fin 2) (e : Fin 16)
    (h : idx (ix3 t j 0) = BitVec.ofNat 32 e.val) :
    Host.gather gather_S2048x16_S2048x2x1_S2048x2_n_1_0_0_1_2_11 P idx (ix2 t j) = P (ix2 t e) := by
  refine congrArg P (funext fun a => Fin.ext ?_)
  match a with
  | ⟨0, _⟩ => show 0 + t.val + 0 = t.val; omega
  | ⟨1, _⟩ =>
    have hs : gather_S2048x16_S2048x2x1_S2048x2_n_1_0_0_1_2_11.siIdx (ix2 t j) ⟨0, by decide⟩ = ix3 t j 0 := by
      funext b
      match b with
      | ⟨0, _⟩ => rfl
      | ⟨1, _⟩ => rfl
      | ⟨2, _⟩ => rfl
    show min (idx (gather_S2048x16_S2048x2x1_S2048x2_n_1_0_0_1_2_11.siIdx (ix2 t j) ⟨0, by decide⟩)).toInt.toNat 15 + 0 + 0 = e.val
    rw [hs, h, clamped e]
    rfl

theorem gather_rows (Y : FVec Ideal S2048x16x1024 .f32) (idx : IVec S2048x2x1 32) (t : Fin 2048) (j : Fin 2) (n : Fin 1024) (e : Fin 16)
    (h : idx (ix3 t j 0) = BitVec.ofNat 32 e.val) :
    Host.gather gather_S2048x16x1024_S2048x2x1_S2048x2x1024_2_1_0_0_1_2_111024 Y idx (ix3 t j n) = Y (ix3 t e n) := by
  refine congrArg Y (funext fun a => Fin.ext ?_)
  match a with
  | ⟨0, _⟩ => show 0 + t.val + 0 = t.val; omega
  | ⟨1, _⟩ =>
    have hs : gather_S2048x16x1024_S2048x2x1_S2048x2x1024_2_1_0_0_1_2_111024.siIdx (ix3 t j n) ⟨0, by decide⟩ = ix3 t j 0 := by
      funext b
      match b with
      | ⟨0, _⟩ => rfl
      | ⟨1, _⟩ => rfl
      | ⟨2, _⟩ => rfl
    show min (idx (gather_S2048x16x1024_S2048x2x1_S2048x2x1024_2_1_0_0_1_2_111024.siIdx (ix3 t j n) ⟨0, by decide⟩)).toInt.toNat 15 + 0 + 0 = e.val
    rw [hs, h, clamped e]
    rfl
  | ⟨2, _⟩ => show 0 + 0 + n.val = n.val; omega

/-! ## The terms -/

section

variable (x : FVec Ideal S2048x512 .bf16) (rw : FVec Ideal S512x16 .bf16) (ix : IVec S2048x2 32) (ew : FVec Ideal S16x512x1024 .bf16)

/-- The scores. -/
def scoresT : FVec Ideal S2048x16 .f32 :=
  Host.dotGeneral dot_S2048x512_S512x16_S2048x16_1_0_0_1_n_n none (extf .f32 x bitsLt_bf16_f32) (extf .f32 rw bitsLt_bf16_f32)

/-- The exponentials of the scores less their row's greatest. -/
def expsT : FVec Ideal S2048x16 .f32 :=
  Host.exp (subf (scoresT x rw) (broadcastInDim S2048x16 ![0, 1] bcast_S2048x1_S2048x16_0_1 (broadcastInDim S2048x1 ![0] bcast_S2048_S2048x1_0
    (Host.reduce FloatOps.maximumf (scoresT x rw) (constant S_ .f32 0xFF800000#32) reducesTo_S2048x16_S2048_d1 h_S_))))

/-- The probabilities. -/
def probsT : FVec Ideal S2048x16 .f32 :=
  Host.divf (expsT x rw) (broadcastInDim S2048x16 ![0, 1] bcast_S2048x1_S2048x16_0_1 (broadcastInDim S2048x1 ![0] bcast_S2048_S2048x1_0
    (Host.reduceAdd (expsT x rw) (constant S_ .f32 0x00000000#32) reducesTo_S2048x16_S2048_d1 h_S_)))

/-- The choices as start indices, for the probabilities. -/
def idxT : IVec S2048x2x1 32 :=
  shapeCast _ (select (cmpi .slt ix (broadcastInDim S2048x2 ![] bcast_S_S2048x2 (constantI S_ 32 0#32)))
    (addi ix (broadcastInDim S2048x2 ![] bcast_S_S2048x2 (constantI S_ 32 16#32))) ix) shapeCasts_S2048x2_S2048x2x1

/-- The choices as start indices, for the experts' products. -/
def idxU : IVec S2048x2x1 32 :=
  select (cmpi .slt (broadcastInDim S2048x2x1 ![0, 1] bcast_S2048x2_S2048x2x1_0_1 ix) (broadcastInDim S2048x2x1 ![] bcast_S_S2048x2x1 (constantI S_ 32 0#32)))
    (addi (broadcastInDim S2048x2x1 ![0, 1] bcast_S2048x2_S2048x2x1_0_1 ix) (broadcastInDim S2048x2x1 ![] bcast_S_S2048x2x1 (constantI S_ 32 16#32)))
    (broadcastInDim S2048x2x1 ![0, 1] bcast_S2048x2_S2048x2x1_0_1 ix)

/-- The chosen probabilities. -/
def chosenT : FVec Ideal S2048x2 .f32 := Host.gather gather_S2048x16_S2048x2x1_S2048x2_n_1_0_0_1_2_11 (probsT x rw) (idxT ix)

/-- Every expert's product with every token. -/
def prodsT : FVec Ideal S2048x16x1024 .f32 :=
  Host.dotGeneral dot_S2048x512_S16x512x1024_S2048x16x1024_1_1_0_02_n_n none (extf .f32 x bitsLt_bf16_f32) (extf .f32 ew bitsLt_bf16_f32)

/-- The chosen experts' products. -/
def chosenU : FVec Ideal S2048x2x1024 .f32 :=
  Host.gather gather_S2048x16x1024_S2048x2x1_S2048x2x1024_2_1_0_0_1_2_111024 (prodsT x ew) (idxU ix)

/-- The reference's result. -/
def outT : FVec Ideal S2048x1024 .f32 :=
  addf
    (mulf (broadcastInDim S2048x1024 ![0, 1] bcast_S2048x1_S2048x1024_0_1
        (Host.divf (extractStridedSlice S2048x1 ![0, 0] (chosenT x rw ix) slices_S2048x2_S2048x1_0_0)
          (addf (extractStridedSlice S2048x1 ![0, 0] (chosenT x rw ix) slices_S2048x2_S2048x1_0_0)
            (extractStridedSlice S2048x1 ![0, 1] (chosenT x rw ix) slices_S2048x2_S2048x1_0_1))))
      (shapeCast _ (extractStridedSlice S2048x1x1024 ![0, 0, 0] (chosenU x ix ew) slices_S2048x2x1024_S2048x1x1024_0_0_0)
        shapeCasts_S2048x1x1024_S2048x1024))
    (mulf (broadcastInDim S2048x1024 ![0, 1] bcast_S2048x1_S2048x1024_0_1
        (Host.divf (extractStridedSlice S2048x1 ![0, 1] (chosenT x rw ix) slices_S2048x2_S2048x1_0_1)
          (addf (extractStridedSlice S2048x1 ![0, 0] (chosenT x rw ix) slices_S2048x2_S2048x1_0_0)
            (extractStridedSlice S2048x1 ![0, 1] (chosenT x rw ix) slices_S2048x2_S2048x1_0_1))))
      (shapeCast _ (extractStridedSlice S2048x1x1024 ![0, 1, 0] (chosenU x ix ew) slices_S2048x2x1024_S2048x1x1024_0_1_0)
        shapeCasts_S2048x1x1024_S2048x1024))

theorem res_eq (m : (ℓ : Loc nD τ sig) → Buf (Elt Ideal) ℓ) (c : Dev nD) : Value.res_out0 (F := Ideal) m c
    = outT (m ((c.tc : Thread nD τ).loc main_arg0)) (m ((c.tc : Thread nD τ).loc main_arg1))
      (m ((c.tc : Thread nD τ).loc main_arg2)) (m ((c.tc : Thread nD τ).loc main_arg3)) := rfl

/-! ## Read at an index -/

theorem scoresT_apply (t : Fin 2048) (e : Fin 16) :
    scoresT x rw (ix2 t e) = scores (fun k => x (ix2 t k)) (fun k e => rw (ix2 k e)) e := by
  pointwise [scoresT]
  rfl

theorem expsT_apply (t : Fin 2048) (e : Fin 16) : expsT x rw (ix2 t e)
    = Ideal.exp (scores (fun k => x (ix2 t k)) (fun k e => rw (ix2 k e)) e - top (scores (fun k => x (ix2 t k)) (fun k e => rw (ix2 k e)))) := by
  pointwise [expsT]
  simp only [scoresT_apply]
  rfl

theorem probsT_apply (t : Fin 2048) (e : Fin 16) :
    probsT x rw (ix2 t e) = soft (scores (fun k => x (ix2 t k)) (fun k e => rw (ix2 k e))) e := by
  pointwise [probsT]
  simp only [expsT_apply]
  rfl

variable (t : Fin 2048) (j : Fin 2) (e : Fin 16) (h : ix (ix2 t j) = BitVec.ofNat 32 e.val)

/-- A small number is not below zero. -/
theorem wrapped (e : Fin 16) (a b : BitVec 32) : Scalar.select (IntOp.cmpi .slt (BitVec.ofNat 32 e.val) 0#32) a b = b := by
  have hz : IntOp.cmpi .slt (BitVec.ofNat 32 e.val) 0#32 = 0#1 := by revert e; decide
  rw [hz]; rfl

include h in
theorem idxT_apply : idxT ix (ix3 t j 0) = BitVec.ofNat 32 e.val := by
  pointwise [idxT]
  rw [h, wrapped]

include h in
theorem idxU_apply : idxU ix (ix3 t j 0) = BitVec.ofNat 32 e.val := by
  pointwise [idxU]
  rw [h, wrapped]

include h in
theorem chosenT_apply : chosenT x rw ix (ix2 t j) = soft (scores (fun k => x (ix2 t k)) (fun k e => rw (ix2 k e))) e :=
  (gather_probs _ _ t j e (idxT_apply ix t j e h)).trans (probsT_apply x rw t e)

theorem prodsT_apply (n : Fin 1024) : prodsT x ew (ix3 t e n) = dot (fun k => x (ix2 t k)) (fun k => ew (ix3 e k n)) := by
  pointwise [prodsT]
  rfl

include h in
theorem chosenU_apply (n : Fin 1024) :
    chosenU x ix ew (ix3 t j n) = dot (fun k => x (ix2 t k)) (fun k => ew (ix3 e k n)) :=
  (gather_rows _ _ t j n e (idxU_apply ix t j e h)).trans (prodsT_apply x ew t e n)

theorem outT_apply (n : Fin 1024) (e0 e1 : Fin 16) (h0 : ix (ix2 t 0) = BitVec.ofNat 32 e0.val)
    (h1 : ix (ix2 t 1) = BitVec.ofNat 32 e1.val) : outT x rw ix ew (ix2 t n)
      = mixed (fun k => x (ix2 t k)) (fun k e => rw (ix2 k e)) (fun e k => ew (ix3 e k n)) e0 e1 := by
  pointwise [outT]
  rw [chosenT_apply x rw ix t 0 e0 h0, chosenT_apply x rw ix t 1 e1 h1, chosenU_apply x ix ew t 0 e0 h0 n,
    chosenU_apply x ix ew t 1 e1 h1 n]
  rfl

end

end Cert.ReferenceIdeal.Mixture

end
-- ==== Proof.Domain.lean ====
/-
What the precondition says of the arguments: every choice is one of the sixteen experts, every token entry and every
entry of the router's matrix is a real number.
-/
module

public import proofs.«01_k».proof.Proof.Mix
public import proofs.«01_k».proof.Proof.Gen.Pre_in_domain_KernelIdeal
public import Idealize.ShloMosaic.Lib.Pointwise
public import Idealize.ShloMosaic.Lib.WordCmp
public import Idealize.ShloMosaic.Lib.ReduceAll

@[expose] public section

set_option maxRecDepth 16384

noncomputable section

namespace Cert.Domain

open Cert.Pre_in_domain_KernelIdeal Cert.Pre_in_domain_KernelIdeal.Gen Cert.Mix
open Idealize.ShloMosaic

/-- A conjunction of bits that is one has both bits one. -/
theorem both {a b : BitVec 1} (h : IntOp.andi a b = 1#1) : a = 1#1 ∧ b = 1#1 := by
  revert a b; decide

theorem rank0 : Subsingleton S_.Idx := ⟨fun a b => funext fun i => i.elim0⟩

/-- A number at least zero and below sixteen, read signed, is one of the sixteen. -/
theorem expert_of_bits (v : BitVec 32) (h0 : IntOp.cmpi .sge v 0#32 = 1#1) (h1 : IntOp.cmpi .slt v 16#32 = 1#1) :
    ∃ e : Fin 16, v = BitVec.ofNat 32 e.val := by
  have a : v.toNat < 2 ^ 31 := by
    rw [WordCmp.cmpi_sge_zero] at h0
    by_contra hn
    rw [decide_eq_false hn] at h0
    exact absurd h0 (by decide)
  have b : v.toNat < 16 := by
    rw [WordCmp.cmpi_slt_of_lt a (by decide)] at h1
    by_contra hn
    rw [show (16#32).toNat = 16 from rfl, decide_eq_false hn] at h1
    exact absurd h1 (by decide)
  exact ⟨⟨v.toNat, b⟩, (by simp : BitVec.ofNat 32 v.toNat = v).symm⟩

theorem inf_bits : Ideal.ofBits .bf16 0x7F80#16 = ⊤ := by simp [Ideal.ofBits, Ideal.ieee]

/-- A value whose magnitude is below infinity is real. -/
theorem real_of_bit (v : EReal) (h : Ideal.cmp .olt (max v (-v)) (Ideal.ofBits .bf16 0x7F80#16) = 1#1) : ∃ r : ℝ, v = r := by
  refine real_of_abs_lt_top ?_
  rw [inf_bits] at h
  by_contra hn
  have : Ideal.cmp .olt (max v (-v)) ⊤ = 0#1 := by
    show BitVec.ofBool (decide (max v (-v) < ⊤)) = 0#1
    rw [decide_eq_false hn]; rfl
  rw [this] at h
  exact absurd h (by decide)

variable (x : FVec Ideal S2048x512 .bf16) (rw : FVec Ideal S512x16 .bf16) (ix : IVec S2048x2 32) (ew : FVec Ideal S4x512x1024 .bf16)
  (h : fn (F := Ideal) x rw ix ew = fun _ => 1#1)

include h in
theorem parts :
    (∀ i, (andi (cmpi .sge ix (broadcastInDim S2048x2 ![] Facts.bcast_S_S2048x2 (constantI S_ 32 0#32)))
        (cmpi .slt ix (broadcastInDim S2048x2 ![] Facts.bcast_S_S2048x2 (constantI S_ 32 16#32)))) i = 1#1)
      ∧ (∀ i, cmpf .olt (Host.absf x) (broadcastInDim S2048x512 ![] Facts.bcast_S_S2048x512 (constant S_ .bf16 0x7F80#16)) i = 1#1)
      ∧ (∀ i, cmpf .olt (Host.absf rw) (broadcastInDim S512x16 ![] Facts.bcast_S_S512x16 (constant S_ .bf16 0x7F80#16)) i = 1#1) := by
  haveI := rank0
  obtain ⟨hab, hc⟩ := both (congrFun h ix0)
  obtain ⟨ha, hb⟩ := both hab
  exact ⟨Host.reduce_andi_all _ _ _ _ _ ha, Host.reduce_andi_all _ _ _ _ _ hb, Host.reduce_andi_all _ _ _ _ _ hc⟩

include h in
theorem choices (t : Fin 2048) (j : Fin 2) : ∃ e : Fin 16, ix (ix2 t j) = BitVec.ofNat 32 e.val := by
  obtain ⟨a, b⟩ := both ((parts x rw ix ew h).1 (ix2 t j))
  exact expert_of_bits _ a b

include h in
theorem tokens_real (t : Fin 2048) (k : Fin 512) : ∃ r : ℝ, x (ix2 t k) = r :=
  real_of_bit _ ((parts x rw ix ew h).2.1 (ix2 t k))

include h in
theorem router_real (k : Fin 512) (e : Fin 16) : ∃ r : ℝ, rw (ix2 k e) = r :=
  real_of_bit _ ((parts x rw ix ew h).2.2 (ix2 k e))

end Cert.Domain

end
-- ==== Proof.Value.lean ====
/-
The kernel's results are the blocks of the reference's result.

Each device's result is the sum of the four devices' shares of its chunk, and those sum to the mixture, which is what
the reference computes.
-/
module

public import proofs.«01_k».proof.Proof.KernelValue
public import proofs.«01_k».proof.Proof.ReferenceValue
public import proofs.«01_k».proof.Proof.Domain
public import proofs.«01_k».proof.Proof.Mesh
public import Idealize.ShloMosaic.Lib.Layout

@[expose] public section

set_option maxRecDepth 16384

noncomputable section

namespace Cert.KernelIdeal.Exchange

open Cert.KernelIdeal Cert.KernelIdeal.Gen Cert.Mix
open Idealize.ShloMosaic Idealize.ShloMosaic.TcCoe

variable {F : FTy → Type} [FloatOps F]

/-! ## Whole arrays -/

theorem xAt_eq (m : (ℓ : Loc nD τ sig) → Buf (Elt F) ℓ) (c : Dev nD) : xAt m c = m ((c : Thread nD τ).loc main_arg0) :=
  Memref.read_access_unit_zero (Elt F) main_arg0 (funext fun a => by fin_cases a <;> decide) _ _

theorem rwAt_eq (m : (ℓ : Loc nD τ sig) → Buf (Elt F) ℓ) (c : Dev nD) : rwAt m c = m ((c : Thread nD τ).loc main_arg1) :=
  Memref.read_access_unit_zero (Elt F) main_arg1 (funext fun a => by fin_cases a <;> decide) _ _

theorem ixAt_eq (m : (ℓ : Loc nD τ sig) → Buf (Elt F) ℓ) (c : Dev nD) : ixAt m c = m ((c : Thread nD τ).loc main_arg2) :=
  Memref.read_access_unit_zero (Elt F) main_arg2 (funext fun a => by fin_cases a <;> decide) _ _

theorem ewAt_eq (m : (ℓ : Loc nD τ sig) → Buf (Elt F) ℓ) (c : Dev nD) : ewAt m c = m ((c : Thread nD τ).loc main_arg3) :=
  Memref.read_access_unit_zero (Elt F) main_arg3 (funext fun a => by fin_cases a <;> decide) _ _

/-- A device's result array ends at what its body computed. -/
theorem finalA_out (m : (ℓ : Loc nD τ sig) → Buf (Elt F) ℓ) (c : Dev nD) : finalA m c (4 : Fin 5) = outAt m c := by
  have h : (win0_4.blk (0 : Fin 1)).view.read (Elt F) (finalA m c (4 : Fin 5)) = outAt m c := by
    unfold finalA
    rw [show cfg0.N = ((0 : Fin 1) : Fin cfg0.N).val + 1 from rfl, (dats m 0 c).arrAt_succ (4 : Fin 5) (0 : Fin 1)]
    rw [show (cfg0.win (4 : Fin 5)).flush (0 : Fin 1) = true from by decide, if_pos rfl]
    exact View.read_write_univ _ _
  rw [← h]
  exact (Memref.read_access_unit_zero (Elt F) main_v1 (funext fun a => by fin_cases a <;> decide) _ _).symm

/-! ## The result, entry by entry -/

section

variable (m : (ℓ : Loc nD τ sig) → Buf (Elt Ideal) ℓ) (x : Vec Ideal S2048x512 .bf16) (rw : Vec Ideal S512x16 .bf16)
  (ix : Vec Ideal S2048x2 .i32) (W : Fin 16 → Fin 512 → Fin 1024 → EReal)
  (hx : ∀ c, xAt m c = x) (hr : ∀ c, rwAt m c = rw) (hi : ∀ c, ixAt m c = ix)
  (hw : ∀ c l k n, ewAt m c (ix3 l k n) = W (expert c l) k n)

include hx hr hi hw in
theorem outAt_apply (c : Dev nD) (i : Fin 512) (n : Fin 1024) (e0 e1 : Fin 16)
    (h0 : ix (ix2 (token c i) 0) = BitVec.ofNat 32 e0.val) (h1 : ix (ix2 (token c i) 1) = BitVec.ofNat 32 e1.val)
    (fx : ∀ t k, ∃ r : ℝ, x (ix2 t k) = r) (fr : ∀ k e, ∃ r : ℝ, rw (ix2 k e) = r) :
    outAt m c (ix2 i n)
      = mixed (fun k => x (ix2 (token c i) k)) (fun k e => rw (ix2 k e)) (fun e k => W e k n) e0 e1 := by
  have own : ownShare (F := Ideal) c (xAt m c) (rwAt m c) (ixAt m c) (ewAt m c) (ix2 i n)
      = shareAt c c x rw i e0 e1 (fun e k => W e k n) := by
    rw [hx, hr, hi]
    exact ownShare_apply c x rw ix (ewAt m c) n e0 e1 _ i h0 h1 fun l k => hw c l k n
  have sent : ∀ d : Dev nD, sentAt m d c ⟨i.val / 128, by omega⟩ (ix3 0 ⟨i.val % 128, by omega⟩ n)
      = shareAt d c x rw i e0 e1 (fun e k => W e k n) := fun d => by
    unfold sentAt
    rw [hx, hr, hi]
    exact sentBlock_apply d c x rw ix (ewAt m d) n e0 e1 _ _ _ i (by show i.val = 128 * (i.val / 128) + i.val % 128; omega)
      h0 h1 fun l k => hw d l k n
  unfold outAt
  rw [resultOf_apply _ _ i n ⟨i.val / 128, by omega⟩ ⟨i.val % 128, by omega⟩
    (by show i.val = 128 * (i.val / 128) + i.val % 128; omega), own, sent, sent, sent]
  refine (sum_rotated (fun d => shareAt d c x rw i e0 e1 (fun e k => W e k n)) c _ _ _ rfl rfl rfl).trans ?_
  exact sum_shares (fun e k => W e k n) e0 e1 (fun k => fx _ k) fr

end

/-! ## Blocks -/

/-- A device's experts are four rows of the sixteen. -/
theorem block_experts (h : Layout.Tiles S4x512x1024 ⟨3, ![16, 512, 1024]⟩ 0 4) (c : Fin 4) (l : Fin 4) (k : Fin 512) (n : Fin 1024) :
    h.idx c (ix3 l k n) = ix3 (expert c l) k n := by
  funext b
  match b with
  | ⟨0, _⟩ => exact Fin.ext (show c.val * 4 + l.val = 4 * c.val + l.val by omega)
  | ⟨1, _⟩ => rfl
  | ⟨2, _⟩ => rfl

/-- A device's result is its chunk of the tokens' rows. -/
theorem block_rows (h : Layout.Tiles S512x1024 ⟨2, ![2048, 1024]⟩ 0 4) (c : Fin 4) (i : Fin 512) (n : Fin 1024) :
    h.idx c (ix2 i n) = ix2 (token c i) n := by
  funext b
  match b with
  | ⟨0, _⟩ => exact Fin.ext (show c.val * 512 + i.val = 512 * c.val + i.val by omega)
  | ⟨1, _⟩ => rfl

/-- Each device's result is its block of the reference's, when the arguments agree and are in the domain. -/
theorem outAt_block (m : (ℓ : Loc nD τ sig) → Buf (Elt Ideal) ℓ)
    (x : FVec Ideal S2048x512 .bf16) (rw : FVec Ideal S512x16 .bf16) (ix : IVec S2048x2 32)
    (ew : FVec Ideal ⟨3, ![16, 512, 1024]⟩ .bf16)
    (hdom : ∀ c : Dev nD, Cert.Pre_in_domain_KernelIdeal.fn (F := Ideal) (xAt m c) (rwAt m c) (ixAt m c) (ewAt m c) = fun _ => 1#1)
    (hx : ∀ c, xAt m c = x) (hr : ∀ c, rwAt m c = rw) (hi : ∀ c, ixAt m c = ix)
    (hw : ∀ c : Dev nD, ewAt m c = Layout.block ⟨3, ![4, 512, 1024]⟩ ⟨3, ![16, 512, 1024]⟩ 0 4 c ew) (c : Dev nD) :
    outAt m c = Layout.block ⟨2, ![512, 1024]⟩ ⟨2, ![2048, 1024]⟩ 0 4 c (Cert.ReferenceIdeal.Mixture.outT x rw ix ew) := by
  have hd := hdom c
  rw [hx, hr, hi] at hd
  funext j
  obtain ⟨i, n, rfl⟩ : ∃ (i : Fin 512) (n : Fin 1024), j = ix2 i n := ⟨j 0, j 1, by
    funext b
    match b with
    | ⟨0, _⟩ => rfl
    | ⟨1, _⟩ => rfl⟩
  obtain ⟨e0, h0⟩ := Cert.Domain.choices x rw ix _ hd (token c i) 0
  obtain ⟨e1, h1⟩ := Cert.Domain.choices x rw ix _ hd (token c i) 1
  rw [outAt_apply m x rw ix (fun e k n => ew (ix3 e k n)) hx hr hi
    (fun d l k n => by rw [hw d]; exact congrArg ew (block_experts _ d l k n)) c i n e0 e1 h0 h1
    (Cert.Domain.tokens_real x rw ix _ hd) (Cert.Domain.router_real x rw ix _ hd)]
  refine Eq.trans ?_ (congrArg (Cert.ReferenceIdeal.Mixture.outT x rw ix ew) (block_rows _ c i n)).symm
  exact (Cert.ReferenceIdeal.Mixture.outT_apply x rw ix ew (token c i) n e0 e1 h0 h1).symm

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_domain_KernelIdeal
public import proofs.«01_k».proof.Proof.Gen.Pre_in_domain_ReferenceIdeal
public import proofs.«01_k».proof.Proof.Mesh
public import proofs.«01_k».proof.Proof.Value
public import Idealize.ShloMosaic.Lib.Quiescent
public import Idealize.ShloMosaic.Adequacy
public import Idealize.ShloMosaic.Init

@[expose] public section

noncomputable section

set_option maxRecDepth 65536

namespace Cert.Proof

open Idealize.ShloMosaic Idealize.SL.Sem Cert.KernelIdeal Cert.KernelIdeal.Exchange

variable {F : FTy → Type} [FloatOps F]

/-! ## The frames -/

/-- A device's token array is never written. -/
theorem finalA_x (m : (ℓ : Loc nD τ sig) → Buf (Elt F) ℓ) (c : Dev nD) :
    finalA m c (0 : Fin 5) = m ((c.tc : Thread nD τ).loc main_arg0) := (dats m 0 c).arrAt_in (0 : Fin 5) rfl _

/-- Nor its copy of the router's matrix. -/
theorem finalA_rw (m : (ℓ : Loc nD τ sig) → Buf (Elt F) ℓ) (c : Dev nD) :
    finalA m c (1 : Fin 5) = m ((c.tc : Thread nD τ).loc main_arg1) := (dats m 0 c).arrAt_in (1 : Fin 5) rfl _

/-- Nor the choices. -/
theorem finalA_ix (m : (ℓ : Loc nD τ sig) → Buf (Elt F) ℓ) (c : Dev nD) :
    finalA m c (2 : Fin 5) = m ((c.tc : Thread nD τ).loc main_arg2) := (dats m 0 c).arrAt_in (2 : Fin 5) rfl _

/-- Nor its experts' matrices. -/
theorem finalA_ew (m : (ℓ : Loc nD τ sig) → Buf (Elt F) ℓ) (c : Dev nD) :
    finalA m c (3 : Fin 5) = m ((c.tc : Thread nD τ).loc main_arg3) := (dats m 0 c).arrAt_in (3 : Fin 5) rfl _

/-- The run read at the four argument arrays. -/
theorem ends_args (m : (ℓ : Loc nD τ sig) → Buf (Elt F) ℓ) (r : PUnit × MemSt nD τ sig (Elt F)) (h : Ends m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c (0 : Fin 5)).trans (finalA_x m c), (h c (1 : Fin 5)).trans (finalA_rw m c),
    (h c (2 : Fin 5)).trans (finalA_ix m c), (h c (3 : Fin 5)).trans (finalA_ew m c)⟩

/-- The run, read at the arguments and the counters. -/
theorem run_args (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨ends_args m r h.1, h.2⟩) (run_main m ρ)

/-- The two printed kernels have one text, so one table of bodies. -/
theorem same_body : @Cert.Kernel.defs₀ F _ _ = @Cert.KernelIdeal.defs₀ F _ _ := by
  refine congrArg Defs.onTc (funext fun l => ?_)
  match l with
  | ⟨0, _⟩ => rfl
  | ⟨_ + 1, h⟩ => exact absurd h (Nat.not_lt.2 (Nat.le_add_left _ _))

theorem same_defs : Cert.Kernel.defs (F := F) = Cert.KernelIdeal.defs (F := F) := congrArg (Pipeline.defs _) same_body

/-- The kernel as printed: the one run, at the machine's floats. -/
theorem frame_kernel : Cert.quiescent_Kernel := by
  intro m ρ _
  rw [same_defs]
  exact run_args (F := Bits) m ρ

/-- The kernel over the extended reals. -/
theorem frame_kernelIdeal : Cert.quiescent_KernelIdeal := fun m ρ _ => run_args (F := Ideal) m ρ

theorem frame_kernelIdeal_pre : Cert.quiescent_KernelIdeal_pre_in_domain_KernelIdeal := fun m ρ _ => run_args (F := Ideal) m ρ

/-- The reference is one device's host program: its arguments are never written and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_pre : Cert.quiescent_ReferenceIdeal_pre_in_domain_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- Over the extended reals each device's result is its block of the reference's. -/
theorem values : Cert.algebraic_KernelIdeal_ReferenceIdeal_pre_in_domain_KernelIdeal := by
  intro m ρ m' ρ' hpre hagree
  refine ⟨Cert.ReferenceIdeal.Value.res_main_v30 m' 0, ?_, ?_⟩
  · refine (θ_run defs _ _).mono (fun r h c => ⟨((h.1 c (4 : Fin 5)).trans (finalA_out m c)).trans ?_, ends_args m r h.1 c⟩)
      (run_main (F := Ideal) m ρ)
    refine outAt_block m _ _ _ _ (fun d => ?_) (fun d => (xAt_eq m d).trans (hagree d).1)
      (fun d => (rwAt_eq m d).trans (hagree d).2.1) (fun d => (ixAt_eq m d).trans (hagree d).2.2.1)
      (fun d => (ewAt_eq m d).trans (hagree d).2.2.2) c
    rw [xAt_eq, rwAt_eq, ixAt_eq, ewAt_eq]
    exact hpre d
  · exact (θ_run Cert.ReferenceIdeal.defs _ _).mono (fun _ h => h 0) (Cert.ReferenceIdeal.Value.run (F := Ideal) m' ρ')

theorem claim : Cert.Claim :=
  ⟨Cert.Kernel.Gen.facts, Cert.KernelIdeal.Gen.facts, Cert.ReferenceIdeal.Gen.facts, Cert.Pre_in_domain_KernelIdeal.Gen.facts,
    Cert.Pre_in_domain_ReferenceIdeal.Gen.facts, frame_kernel, frame_kernelIdeal, frame_kernelIdeal_pre, frame_reference,
    frame_reference_pre, trivial, values⟩

end Cert.Proof

end
